-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S1024x50x7 : Shape := ⟨3, ![1024, 50, 7]⟩
abbrev S1024x50 : Shape := ⟨2, ![1024, 50]⟩
abbrev S1024x50x2 : Shape := ⟨3, ![1024, 50, 2]⟩
abbrev S1024x50x9 : Shape := ⟨3, ![1024, 50, 9]⟩
abbrev S1024x50x16 : Shape := ⟨3, ![1024, 50, 16]⟩
abbrev S1024 : Shape := ⟨1, ![1024]⟩
abbrev S53x64 : Shape := ⟨2, ![53, 64]⟩
abbrev S2x64 : Shape := ⟨2, ![2, 64]⟩
abbrev S9x64 : Shape := ⟨2, ![9, 64]⟩
abbrev S10x64 : Shape := ⟨2, ![10, 64]⟩
abbrev S64 : Shape := ⟨1, ![64]⟩
abbrev S16x64 : Shape := ⟨2, ![16, 64]⟩
abbrev S448x64 : Shape := ⟨2, ![448, 64]⟩
abbrev S_ : Shape := ⟨0, ![]⟩
abbrev S192x64 : Shape := ⟨2, ![192, 64]⟩

class Facts : Prop where
  bcast_S_S1024x50x7 : S_.BroadcastsInDim S1024x50x7 (![] : Fin 0 → Fin S1024x50x7.rank)
  reducesTo_S1024x50x7_S_d0_1_2 : S1024x50x7.ReducesTo [0, 1, 2] S_
  h_S_ : 0 < S_.numel
  bcast_S_S1024x50 : S_.BroadcastsInDim S1024x50 (![] : Fin 0 → Fin S1024x50.rank)
  reducesTo_S1024x50_S_d0_1 : S1024x50.ReducesTo [0, 1] S_
  bcast_S_S1024x50x2 : S_.BroadcastsInDim S1024x50x2 (![] : Fin 0 → Fin S1024x50x2.rank)
  reducesTo_S1024x50x2_S_d0_1_2 : S1024x50x2.ReducesTo [0, 1, 2] S_
  bcast_S_S1024x50x9 : S_.BroadcastsInDim S1024x50x9 (![] : Fin 0 → Fin S1024x50x9.rank)
  reducesTo_S1024x50x9_S_d0_1_2 : S1024x50x9.ReducesTo [0, 1, 2] S_
  bcast_S_S1024x50x16 : S_.BroadcastsInDim S1024x50x16 (![] : Fin 0 → Fin S1024x50x16.rank)
  reducesTo_S1024x50x16_S_d0_1_2 : S1024x50x16.ReducesTo [0, 1, 2] S_
  slices_S448x64_S192x64_256_0 : S448x64.Slices ![256, 0] S192x64
  bcast_S_S192x64 : S_.BroadcastsInDim S192x64 (![] : Fin 0 → Fin S192x64.rank)
  reducesTo_S192x64_S_d0_1 : S192x64.ReducesTo [0, 1] S_

variable [Facts]

def fn_part2 {F : FTy → Type} [FloatOps F] (main_arg6 : FVec F S1024x50x16 .f32) (main_arg19 : FVec F S448x64 .f32) (main_v31 : IVec S_ 1) (main_v32 : FVec F S1024x50x9 .f32) (main_cst_12 : FVec F S_ .f32) : IVec S_ 1 :=
  let main_v33 : FVec F S1024x50x9 .f32 := broadcastInDim S1024x50x9 ![] bcast_S_S1024x50x9 main_cst_12
  let main_v34 : IVec S1024x50x9 1 := cmpf .olt main_v32 main_v33
  let main_c_13 : IVec S_ 1 := constantI S_ 1 1#1
  let main_v35 : IVec S_ 1 := (fun x v => Host.reduce IntOp.andi x v reducesTo_S1024x50x9_S_d0_1_2 h_S_) main_v34 main_c_13
  let main_v36 : IVec S_ 1 := andi main_v31 main_v35
  let main_v37 : FVec F S1024x50x16 .f32 := Host.absf main_arg6
  let main_cst_14 : FVec F S_ .f32 := constant S_ .f32 0x7F800000#32
  let main_v38 : FVec F S1024x50x16 .f32 := broadcastInDim S1024x50x16 ![] bcast_S_S1024x50x16 main_cst_14
  let main_v39 : IVec S1024x50x16 1 := cmpf .olt main_v37 main_v38
  let main_c_15 : IVec S_ 1 := constantI S_ 1 1#1
  let main_v40 : IVec S_ 1 := (fun x v => Host.reduce IntOp.andi x v reducesTo_S1024x50x16_S_d0_1_2 h_S_) main_v39 main_c_15
  let main_v41 : IVec S_ 1 := andi main_v36 main_v40
  let main_v42 : FVec F S192x64 .f32 := (extractStridedSlice S192x64 ![256, 0] · slices_S448x64_S192x64_256_0) main_arg19
  let main_v43 : FVec F S192x64 .f32 := Host.absf main_v42
  let main_cst_16 : FVec F S_ .f32 := constant S_ .f32 0x7F800000#32
  let main_v44 : FVec F S192x64 .f32 := broadcastInDim S192x64 ![] bcast_S_S192x64 main_cst_16
  let main_v45 : IVec S192x64 1 := cmpf .olt main_v43 main_v44
  let main_c_17 : IVec S_ 1 := constantI S_ 1 1#1
  let main_v46 : IVec S_ 1 := (fun x v => Host.reduce IntOp.andi x v reducesTo_S192x64_S_d0_1 h_S_) main_v45 main_c_17
  let main_v47 : IVec S_ 1 := andi main_v41 main_v46
  main_v47

def fn_part1 {F : FTy → Type} [FloatOps F] (main_arg2 : IVec S1024x50 32) (main_arg3 : IVec S1024x50 32) (main_arg4 : FVec F S1024x50x2 .f32) (main_arg5 : FVec F S1024x50x9 .f32) (main_arg6 : FVec F S1024x50x16 .f32) (main_arg19 : FVec F S448x64 .f32) (main_v12 : IVec S_ 1) (main_v14 : IVec S1024x50 1) (main_v15 : IVec S1024x50 32) : IVec S_ 1 :=
  let main_v16 : IVec S1024x50 1 := cmpi .slt main_arg2 main_v15
  let main_v17 : IVec S1024x50 1 := andi main_v14 main_v16
  let main_c_7 : IVec S_ 1 := constantI S_ 1 1#1
  let main_v18 : IVec S_ 1 := (fun x v => Host.reduce IntOp.andi x v reducesTo_S1024x50_S_d0_1 h_S_) main_v17 main_c_7
  let main_v19 : IVec S_ 1 := andi main_v12 main_v18
  let main_c_8 : IVec S_ 32 := constantI S_ 32 0#32
  let main_v20 : IVec S1024x50 32 := broadcastInDim S1024x50 ![] bcast_S_S1024x50 main_c_8
  let main_v21 : IVec S1024x50 1 := cmpi .sge main_arg3 main_v20
  let main_c_9 : IVec S_ 32 := constantI S_ 32 10#32
  let main_v22 : IVec S1024x50 32 := broadcastInDim S1024x50 ![] bcast_S_S1024x50 main_c_9
  let main_v23 : IVec S1024x50 1 := cmpi .slt main_arg3 main_v22
  let main_v24 : IVec S1024x50 1 := andi main_v21 main_v23
  let main_c_10 : IVec S_ 1 := constantI S_ 1 1#1
  let main_v25 : IVec S_ 1 := (fun x v => Host.reduce IntOp.andi x v reducesTo_S1024x50_S_d0_1 h_S_) main_v24 main_c_10
  let main_v26 : IVec S_ 1 := andi main_v19 main_v25
  let main_v27 : FVec F S1024x50x2 .f32 := Host.absf main_arg4
  let main_cst : FVec F S_ .f32 := constant S_ .f32 0x7F800000#32
  let main_v28 : FVec F S1024x50x2 .f32 := broadcastInDim S1024x50x2 ![] bcast_S_S1024x50x2 main_cst
  let main_v29 : IVec S1024x50x2 1 := cmpf .olt main_v27 main_v28
  let main_c_11 : IVec S_ 1 := constantI S_ 1 1#1
  let main_v30 : IVec S_ 1 := (fun x v => Host.reduce IntOp.andi x v reducesTo_S1024x50x2_S_d0_1_2 h_S_) main_v29 main_c_11
  let main_v31 : IVec S_ 1 := andi main_v26 main_v30
  let main_v32 : FVec F S1024x50x9 .f32 := Host.absf main_arg5
  let main_cst_12 : FVec F S_ .f32 := constant S_ .f32 0x7F800000#32
  fn_part2 (F := F) main_arg6 main_arg19 main_v31 main_v32 main_cst_12

def fn {F : FTy → Type} [FloatOps F] (main_arg0 : IVec S1024x50x7 32) (main_arg1 : IVec S1024x50 32) (main_arg2 : IVec S1024x50 32) (main_arg3 : IVec S1024x50 32) (main_arg4 : FVec F S1024x50x2 .f32) (main_arg5 : FVec F S1024x50x9 .f32) (main_arg6 : FVec F S1024x50x16 .f32) (main_arg7 : IVec S1024 32) (main_arg8 : FVec F S53x64 .f32) (main_arg9 : FVec F S2x64 .f32) (main_arg10 : FVec F S9x64 .f32) (main_arg11 : FVec F S9x64 .f32) (main_arg12 : FVec F S10x64 .f32) (main_arg13 : FVec F S2x64 .f32) (main_arg14 : FVec F S64 .f32) (main_arg15 : FVec F S9x64 .f32) (main_arg16 : FVec F S64 .f32) (main_arg17 : FVec F S16x64 .f32) (main_arg18 : FVec F S64 .f32) (main_arg19 : FVec F S448x64 .f32) (main_arg20 : FVec F S64 .f32) (main_arg21 : FVec F S64 .f32) (main_arg22 : FVec F S64 .f32) : IVec S_ 1 :=
  let main_c : IVec S_ 32 := constantI S_ 32 0#32
  let main_v0 : IVec S1024x50x7 32 := broadcastInDim S1024x50x7 ![] bcast_S_S1024x50x7 main_c
  let main_v1 : IVec S1024x50x7 1 := cmpi .sge main_arg0 main_v0
  let main_c_0 : IVec S_ 32 := constantI S_ 32 53#32
  let main_v2 : IVec S1024x50x7 32 := broadcastInDim S1024x50x7 ![] bcast_S_S1024x50x7 main_c_0
  let main_v3 : IVec S1024x50x7 1 := cmpi .slt main_arg0 main_v2
  let main_v4 : IVec S1024x50x7 1 := andi main_v1 main_v3
  let main_c_1 : IVec S_ 1 := constantI S_ 1 1#1
  let main_v5 : IVec S_ 1 := (fun x v => Host.reduce IntOp.andi x v reducesTo_S1024x50x7_S_d0_1_2 h_S_) main_v4 main_c_1
  let main_c_2 : IVec S_ 32 := constantI S_ 32 0#32
  let main_v6 : IVec S1024x50 32 := broadcastInDim S1024x50 ![] bcast_S_S1024x50 main_c_2
  let main_v7 : IVec S1024x50 1 := cmpi .sge main_arg1 main_v6
  let main_c_3 : IVec S_ 32 := constantI S_ 32 9#32
  let main_v8 : IVec S1024x50 32 := broadcastInDim S1024x50 ![] bcast_S_S1024x50 main_c_3
  let main_v9 : IVec S1024x50 1 := cmpi .slt main_arg1 main_v8
  let main_v10 : IVec S1024x50 1 := andi main_v7 main_v9
  let main_c_4 : IVec S_ 1 := constantI S_ 1 1#1
  let main_v11 : IVec S_ 1 := (fun x v => Host.reduce IntOp.andi x v reducesTo_S1024x50_S_d0_1 h_S_) main_v10 main_c_4
  let main_v12 : IVec S_ 1 := andi main_v5 main_v11
  let main_c_5 : IVec S_ 32 := constantI S_ 32 0#32
  let main_v13 : IVec S1024x50 32 := broadcastInDim S1024x50 ![] bcast_S_S1024x50 main_c_5
  let main_v14 : IVec S1024x50 1 := cmpi .sge main_arg2 main_v13
  let main_c_6 : IVec S_ 32 := constantI S_ 32 9#32
  let main_v15 : IVec S1024x50 32 := broadcastInDim S1024x50 ![] bcast_S_S1024x50 main_c_6
  fn_part1 (F := F) main_arg2 main_arg3 main_arg4 main_arg5 main_arg6 main_arg19 main_v12 main_v14 main_v15
-- ==== Kernel.lean ====
abbrev S1024x50x7 : Shape := ⟨3, ![1024, 50, 7]⟩
abbrev S1024x50 : Shape := ⟨2, ![1024, 50]⟩
abbrev S1024x50x2 : Shape := ⟨3, ![1024, 50, 2]⟩
abbrev S1024x50x9 : Shape := ⟨3, ![1024, 50, 9]⟩
abbrev S1024x50x16 : Shape := ⟨3, ![1024, 50, 16]⟩
abbrev S1024 : Shape := ⟨1, ![1024]⟩
abbrev S53x64 : Shape := ⟨2, ![53, 64]⟩
abbrev S2x64 : Shape := ⟨2, ![2, 64]⟩
abbrev S9x64 : Shape := ⟨2, ![9, 64]⟩
abbrev S10x64 : Shape := ⟨2, ![10, 64]⟩
abbrev S64 : Shape := ⟨1, ![64]⟩
abbrev S16x64 : Shape := ⟨2, ![16, 64]⟩
abbrev S448x64 : Shape := ⟨2, ![448, 64]⟩
abbrev S1x64 : Shape := ⟨2, ![1, 64]⟩
abbrev S55x64 : Shape := ⟨2, ![55, 64]⟩
abbrev S1x448 : Shape := ⟨2, ![1, 448]⟩
abbrev S7x448 : Shape := ⟨2, ![7, 448]⟩
abbrev S448x7 : Shape := ⟨2, ![448, 7]⟩
abbrev S64x64 : Shape := ⟨2, ![64, 64]⟩
abbrev S53 : Shape := ⟨1, ![53]⟩
abbrev S53x1 : Shape := ⟨2, ![53, 1]⟩
abbrev S55 : Shape := ⟨1, ![55]⟩
abbrev S55x1 : Shape := ⟨2, ![55, 1]⟩
abbrev S1 : Shape := ⟨1, ![1]⟩
abbrev S1x1 : Shape := ⟨2, ![1, 1]⟩
abbrev S5x64 : Shape := ⟨2, ![5, 64]⟩
abbrev S7x64 : Shape := ⟨2, ![7, 64]⟩
abbrev S1024x1x1 : Shape := ⟨3, ![1024, 1, 1]⟩
abbrev S1024x50x1 : Shape := ⟨3, ![1024, 50, 1]⟩
abbrev S1024x50x38 : Shape := ⟨3, ![1024, 50, 38]⟩
abbrev S51200x38 : Shape := ⟨2, ![51200, 38]⟩
abbrev S1024x1 : Shape := ⟨2, ![1024, 1]⟩
abbrev S51200x448 : Shape := ⟨2, ![51200, 448]⟩
abbrev S1024x350 : Shape := ⟨2, ![1024, 350]⟩
abbrev S3200x38 : Shape := ⟨2, ![3200, 38]⟩
abbrev S64x1 : Shape := ⟨2, ![64, 1]⟩
abbrev S3200x448 : Shape := ⟨2, ![3200, 448]⟩
abbrev S64x350 : Shape := ⟨2, ![64, 350]⟩
abbrev S3200x9 : Shape := ⟨2, ![3200, 9]⟩
abbrev S3200x10 : Shape := ⟨2, ![3200, 10]⟩
abbrev S3200x27 : Shape := ⟨2, ![3200, 27]⟩
abbrev S3200x1 : Shape := ⟨2, ![3200, 1]⟩
abbrev S3200x55 : Shape := ⟨2, ![3200, 55]⟩
abbrev S3200x64 : Shape := ⟨2, ![3200, 64]⟩
abbrev S3200x53 : Shape := ⟨2, ![3200, 53]⟩
abbrev S3200x7 : Shape := ⟨2, ![3200, 7]⟩
abbrev S1x7 : Shape := ⟨2, ![1, 7]⟩
abbrev S1024x350x64 : Shape := ⟨3, ![1024, 350, 64]⟩

abbrev nBuf : Space → Nat
  | .hbm => 51
  | .vmem => 35
  | .smem => 0
  | _ => 0

abbrev bufTy : (tb : Table) → Fin (tcTables nBuf tb) → BufTy
  | .hbm, ⟨0, _⟩ => ⟨S1024x50x7, .i32⟩
  | .hbm, ⟨1, _⟩ => ⟨S1024x50, .i32⟩
  | .hbm, ⟨2, _⟩ => ⟨S1024x50, .i32⟩
  | .hbm, ⟨3, _⟩ => ⟨S1024x50, .i32⟩
  | .hbm, ⟨4, _⟩ => ⟨S1024x50x2, .f32⟩
  | .hbm, ⟨5, _⟩ => ⟨S1024x50x9, .f32⟩
  | .hbm, ⟨6, _⟩ => ⟨S1024x50x16, .f32⟩
  | .hbm, ⟨7, _⟩ => ⟨S1024, .i32⟩
  | .hbm, ⟨8, _⟩ => ⟨S53x64, .f32⟩
  | .hbm, ⟨9, _⟩ => ⟨S2x64, .f32⟩
  | .hbm, ⟨10, _⟩ => ⟨S9x64, .f32⟩
  | .hbm, ⟨11, _⟩ => ⟨S9x64, .f32⟩
  | .hbm, ⟨12, _⟩ => ⟨S10x64, .f32⟩
  | .hbm, ⟨13, _⟩ => ⟨S2x64, .f32⟩
  | .hbm, ⟨14, _⟩ => ⟨S64, .f32⟩
  | .hbm, ⟨15, _⟩ => ⟨S9x64, .f32⟩
  | .hbm, ⟨16, _⟩ => ⟨S64, .f32⟩
  | .hbm, ⟨17, _⟩ => ⟨S16x64, .f32⟩
  | .hbm, ⟨18, _⟩ => ⟨S64, .f32⟩
  | .hbm, ⟨19, _⟩ => ⟨S448x64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S53x64, .f32⟩
  | .hbm, ⟨30, _⟩ => ⟨S55x64, .f32⟩
  | .hbm, ⟨31, _⟩ => ⟨S1x64, .f32⟩
  | .hbm, ⟨32, _⟩ => ⟨S1x448, .f32⟩
  | .hbm, ⟨33, _⟩ => ⟨S7x448, .f32⟩
  | .hbm, ⟨34, _⟩ => ⟨S448x7, .f32⟩
  | .hbm, ⟨35, _⟩ => ⟨S1024, .f32⟩
  | .hbm, ⟨36, _⟩ => ⟨S1024x1x1, .f32⟩
  | .hbm, ⟨37, _⟩ => ⟨S1024x50x1, .f32⟩
  | .hbm, ⟨38, _⟩ => ⟨S1024x50x7, .f32⟩
  | .hbm, ⟨39, _⟩ => ⟨S1024x50, .f32⟩
  | .hbm, ⟨40, _⟩ => ⟨S1024x50x1, .f32⟩
  | .hbm, ⟨41, _⟩ => ⟨S1024x50, .f32⟩
  | .hbm, ⟨42, _⟩ => ⟨S1024x50x1, .f32⟩
  | .hbm, ⟨43, _⟩ => ⟨S1024x50, .f32⟩
  | .hbm, ⟨44, _⟩ => ⟨S1024x50x1, .f32⟩
  | .hbm, ⟨45, _⟩ => ⟨S1024x50x38, .f32⟩
  | .hbm, ⟨46, _⟩ => ⟨S51200x38, .f32⟩
  | .hbm, ⟨47, _⟩ => ⟨S1024x1, .i32⟩
  | .hbm, ⟨48, _⟩ => ⟨S51200x448, .f32⟩
  | .hbm, ⟨49, _⟩ => ⟨S1024x350, .f32⟩
  | .hbm, ⟨50, _⟩ => ⟨S1024x350x64, .f32⟩
  | .local _ .vmem, ⟨0, _⟩ => ⟨S53x64, .f32⟩
  | .local _ .vmem, ⟨1, _⟩ => ⟨S2x64, .f32⟩
  | .local _ .vmem, ⟨2, _⟩ => ⟨S9x64, .f32⟩
  | .local _ .vmem, ⟨3, _⟩ => ⟨S9x64, .f32⟩
  | .local _ .vmem, ⟨4, _⟩ => ⟨S10x64, .f32⟩
  | .local _ .vmem, ⟨5, _⟩ => ⟨S2x64, .f32⟩
  | .local _ .vmem, ⟨6, _⟩ => ⟨S1x64, .f32⟩
  | .local _ .vmem, ⟨7, _⟩ => ⟨S9x64, .f32⟩
  | .local _ .vmem, ⟨8, _⟩ => ⟨S1x64, .f32⟩
  | .local _ .vmem, ⟨9, _⟩ => ⟨S16x64, .f32⟩
  | .local _ .vmem, ⟨10, _⟩ => ⟨S1x64, .f32⟩
  | .local _ .vmem, ⟨11, _⟩ => ⟨S448x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S53x64, .f32⟩
  | .local _ .vmem, ⟨16, _⟩ => ⟨S55x64, .f32⟩
  | .local _ .vmem, ⟨17, _⟩ => ⟨S1x64, .f32⟩
  | .local _ .vmem, ⟨18, _⟩ => ⟨S1x448, .f32⟩
  | .local _ .vmem, ⟨19, _⟩ => ⟨S7x448, .f32⟩
  | .local _ .vmem, ⟨20, _⟩ => ⟨S448x7, .f32⟩
  | .local _ .vmem, ⟨21, _⟩ => ⟨S3200x38, .f32⟩
  | .local _ .vmem, ⟨22, _⟩ => ⟨S3200x38, .f32⟩
  | .local _ .vmem, ⟨23, _⟩ => ⟨S64x1, .i32⟩
  | .local _ .vmem, ⟨24, _⟩ => ⟨S64x1, .i32⟩
  | .local _ .vmem, ⟨25, _⟩ => ⟨S53x64, .f32⟩
  | .local _ .vmem, ⟨26, _⟩ => ⟨S55x64, .f32⟩
  | .local _ .vmem, ⟨27, _⟩ => ⟨S1x64, .f32⟩
  | .local _ .vmem, ⟨28, _⟩ => ⟨S1x448, .f32⟩
  | .local _ .vmem, ⟨29, _⟩ => ⟨S7x448, .f32⟩
  | .local _ .vmem, ⟨30, _⟩ => ⟨S448x7, .f32⟩
  | .local _ .vmem, ⟨31, _⟩ => ⟨S3200x448, .f32⟩
  | .local _ .vmem, ⟨32, _⟩ => ⟨S3200x448, .f32⟩
  | .local _ .vmem, ⟨33, _⟩ => ⟨S64x350, .f32⟩
  | .local _ .vmem, ⟨34, _⟩ => ⟨S64x350, .f32⟩
  | _, _ => ⟨S1024x50x7, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6_0 : Ref sig .tc := ⟨.hbm, 29, rfl⟩
abbrev main_v6_1 : Ref sig .tc := ⟨.hbm, 30, rfl⟩
abbrev main_v6_2 : Ref sig .tc := ⟨.hbm, 31, rfl⟩
abbrev main_v6_3 : Ref sig .tc := ⟨.hbm, 32, rfl⟩
abbrev main_v6_4 : Ref sig .tc := ⟨.hbm, 33, rfl⟩
abbrev main_v6_5 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20_0 : Ref sig .tc := ⟨.hbm, 48, rfl⟩
abbrev main_v20_1 : Ref sig .tc := ⟨.hbm, 49, rfl⟩
abbrev main_v21 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem8_1 : DmaSem sig := 32
abbrev cc1_sem9_0 : DmaSem sig := 33
abbrev cc1_sem9_1 : DmaSem sig := 34

abbrev nD : Nat := 1
abbrev τ : Topo := Topo.v7x

variable {F : FTy → Type} [FloatOps F]

abbrev grid0 : Pipeline.Grid := .none

abbrev stage0_0 : Fin 1 → Memref sig .tc .vmem S53x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S448x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S53x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S55x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x448 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S7x448 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S448x7 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x38 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S53x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S55x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x448 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S7x448 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S448x7 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S3200x448 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S64x350 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S1024x50x7 : Shape := ⟨3, ![1024, 50, 7]⟩
abbrev S1024x50 : Shape := ⟨2, ![1024, 50]⟩
abbrev S1024x50x2 : Shape := ⟨3, ![1024, 50, 2]⟩
abbrev S1024x50x9 : Shape := ⟨3, ![1024, 50, 9]⟩
abbrev S1024x50x16 : Shape := ⟨3, ![1024, 50, 16]⟩
abbrev S1024 : Shape := ⟨1, ![1024]⟩
abbrev S53x64 : Shape := ⟨2, ![53, 64]⟩
abbrev S2x64 : Shape := ⟨2, ![2, 64]⟩
abbrev S9x64 : Shape := ⟨2, ![9, 64]⟩
abbrev S10x64 : Shape := ⟨2, ![10, 64]⟩
abbrev S64 : Shape := ⟨1, ![64]⟩
abbrev S16x64 : Shape := ⟨2, ![16, 64]⟩
abbrev S448x64 : Shape := ⟨2, ![448, 64]⟩
abbrev S7 : Shape := ⟨1, ![7]⟩
abbrev S_ : Shape := ⟨0, ![]⟩
abbrev S1024x50x7x1 : Shape := ⟨4, ![1024, 50, 7, 1]⟩
abbrev S1 : Shape := ⟨1, ![1]⟩
abbrev S1x1x1x1 : Shape := ⟨4, ![1, 1, 1, 1]⟩
abbrev S1024x50x7x64 : Shape := ⟨4, ![1024, 50, 7, 64]⟩
abbrev S7x1 : Shape := ⟨2, ![7, 1]⟩
abbrev S1x1 : Shape := ⟨2, ![1, 1]⟩
abbrev S7x64 : Shape := ⟨2, ![7, 64]⟩
abbrev S1024x50x1 : Shape := ⟨3, ![1024, 50, 1]⟩
abbrev S1x1x1 : Shape := ⟨3, ![1, 1, 1]⟩
abbrev S1024x50x64 : Shape := ⟨3, ![1024, 50, 64]⟩
abbrev S1x1x64 : Shape := ⟨3, ![1, 1, 64]⟩
abbrev S1024x50x384 : Shape := ⟨3, ![1024, 50, 384]⟩
abbrev S1024x50x1x384 : Shape := ⟨4, ![1024, 50, 1, 384]⟩
abbrev S1024x50x7x384 : Shape := ⟨4, ![1024, 50, 7, 384]⟩
abbrev S1024x50x7x448 : Shape := ⟨4, ![1024, 50, 7, 448]⟩
abbrev S1x1x1x64 : Shape := ⟨4, ![1, 1, 1, 64]⟩
abbrev S1x1x7x64 : Shape := ⟨4, ![1, 1, 7, 64]⟩
abbrev S1024x350x64 : Shape := ⟨3, ![1024, 350, 64]⟩
abbrev S50 : Shape := ⟨1, ![50]⟩
abbrev S1x50 : Shape := ⟨2, ![1, 50]⟩
abbrev S1024x1 : Shape := ⟨2, ![1024, 1]⟩
abbrev S1024x350 : Shape := ⟨2, ![1024, 350]⟩
abbrev S1024x350x1 : Shape := ⟨3, ![1024, 350, 1]⟩

abbrev nBuf : Space → Nat
  | .hbm => 204
  | .vmem => 0
  | .smem => 0
  | _ => 0

abbrev hbmTy0_0 (i : Nat) : BufTy := match i % 128 with
  | 0 => ⟨S1024x50x7, .i32⟩
  | 1 => ⟨S1024x50, .i32⟩
  | 2 => ⟨S1024x50, .i32⟩
  | 3 => ⟨S1024x50, .i32⟩
  | 4 => ⟨S1024x50x2, .f32⟩
  | 5 => ⟨S1024x50x9, .f32⟩
  | 6 => ⟨S1024x50x16, .f32⟩
  | 7 => ⟨S1024, .i32⟩
  | 8 => ⟨S53x64, .f32⟩
  | 9 => ⟨S2x64, .f32⟩
  | 10 => ⟨S9x64, .f32⟩
  | 11 => ⟨S9x64, .f32⟩
  | 12 => ⟨S10x64, .f32⟩
  | 13 => ⟨S2x64, .f32⟩
  | 14 => ⟨S64, .f32⟩
  | 15 => ⟨S9x64, .f32⟩
  | 16 => ⟨S64, .f32⟩
  | 17 => ⟨S16x64, .f32⟩
  | 18 => ⟨S64, .f32⟩
  | 19 => ⟨S448x64, .f32⟩
  | 20 => ⟨S64, .f32⟩
  | 21 => ⟨S64, .f32⟩
  | 22 => ⟨S64, .f32⟩
  | 23 => ⟨S7, .i32⟩
  | 24 => ⟨S_, .i32⟩
  | 25 => ⟨S1024x50x7, .i32⟩
  | 26 => ⟨S1024x50x7, .i1⟩
  | 27 => ⟨S_, .i32⟩
  | 28 => ⟨S1024x50x7, .i32⟩
  | 29 => ⟨S1024x50x7, .i32⟩
  | 30 => ⟨S1024x50x7, .i32⟩
  | 31 => ⟨S1024x50x7x1, .i32⟩
  | 32 => ⟨S1, .i32⟩
  | 33 => ⟨S_, .i32⟩
  | 34 => ⟨S1024x50x7x1, .i32⟩
  | 35 => ⟨S1024x50x7x1, .i1⟩
  | 36 => ⟨S1x1x1x1, .i32⟩
  | 37 => ⟨S1024x50x7x1, .i32⟩
  | 38 => ⟨S1024x50x7x1, .i1⟩
  | 39 => ⟨S1024x50x7x1, .i1⟩
  | 40 => ⟨S_, .i1⟩
  | 41 => ⟨S1024x50x7, .i1⟩
  | 42 => ⟨S1024x50x7x64, .f32⟩
  | 43 => ⟨S1024x50x7x64, .i1⟩
  | 44 => ⟨S_, .f32⟩
  | 45 => ⟨S1024x50x7x64, .f32⟩
  | 46 => ⟨S1024x50x7x64, .f32⟩
  | 47 => ⟨S_, .i32⟩
  | 48 => ⟨S7, .i32⟩
  | 49 => ⟨S7, .i1⟩
  | 50 => ⟨S_, .i32⟩
  | 51 => ⟨S7, .i32⟩
  | 52 => ⟨S7, .i32⟩
  | 53 => ⟨S7, .i32⟩
  | 54 => ⟨S7x1, .i32⟩
  | 55 => ⟨S1, .i32⟩
  | 56 => ⟨S_, .i32⟩
  | 57 => ⟨S7x1, .i32⟩
  | 58 => ⟨S7x1, .i1⟩
  | 59 => ⟨S1x1, .i32⟩
  | 60 => ⟨S7x1, .i32⟩
  | 61 => ⟨S7x1, .i1⟩
  | 62 => ⟨S7x1, .i1⟩
  | 63 => ⟨S_, .i1⟩
  | 64 => ⟨S7, .i1⟩
  | 65 => ⟨S7x64, .f32⟩
  | 66 => ⟨S7x64, .i1⟩
  | 67 => ⟨S_, .f32⟩
  | 68 => ⟨S7x64, .f32⟩
  | 69 => ⟨S7x64, .f32⟩
  | 70 => ⟨S_, .i32⟩
  | 71 => ⟨S1024x50, .i32⟩
  | 72 => ⟨S1024x50, .i1⟩
  | 73 => ⟨S_, .i32⟩
  | 74 => ⟨S1024x50, .i32⟩
  | 75 => ⟨S1024x50, .i32⟩
  | 76 => ⟨S1024x50, .i32⟩
  | 77 => ⟨S1024x50x1, .i32⟩
  | 78 => ⟨S1, .i32⟩
  | 79 => ⟨S_, .i32⟩
  | 80 => ⟨S1024x50x1, .i32⟩
  | 81 => ⟨S1024x50x1, .i1⟩
  | 82 => ⟨S1x1x1, .i32⟩
  | 83 => ⟨S1024x50x1, .i32⟩
  | 84 => ⟨S1024x50x1, .i1⟩
  | 85 => ⟨S1024x50x1, .i1⟩
  | 86 => ⟨S_, .i1⟩
  | 87 => ⟨S1024x50, .i1⟩
  | 88 => ⟨S1024x50x64, .f32⟩
  | 89 => ⟨S1024x50x64, .i1⟩
  | 90 => ⟨S_, .f32⟩
  | 91 => ⟨S1024x50x64, .f32⟩
  | 92 => ⟨S1024x50x64, .f32⟩
  | 93 => ⟨S_, .i32⟩
  | 94 => ⟨S1024x50, .i32⟩
  | 95 => ⟨S1024x50, .i1⟩
  | 96 => ⟨S_, .i32⟩
  | 97 => ⟨S1024x50, .i32⟩
  | 98 => ⟨S1024x50, .i32⟩
  | 99 => ⟨S1024x50, .i32⟩
  | 100 => ⟨S1024x50x1, .i32⟩
  | 101 => ⟨S1, .i32⟩
  | 102 => ⟨S_, .i32⟩
  | 103 => ⟨S1024x50x1, .i32⟩
  | 104 => ⟨S1024x50x1, .i1⟩
  | 105 => ⟨S1x1x1, .i32⟩
  | 106 => ⟨S1024x50x1, .i32⟩
  | 107 => ⟨S1024x50x1, .i1⟩
  | 108 => ⟨S1024x50x1, .i1⟩
  | 109 => ⟨S_, .i1⟩
  | 110 => ⟨S1024x50, .i1⟩
  | 111 => ⟨S1024x50x64, .f32⟩
  | 112 => ⟨S1024x50x64, .i1⟩
  | 113 => ⟨S_, .f32⟩
  | 114 => ⟨S1024x50x64, .f32⟩
  | 115 => ⟨S1024x50x64, .f32⟩
  | 116 => ⟨S_, .i32⟩
  | 117 => ⟨S1024x50, .i32⟩
  | 118 => ⟨S1024x50, .i1⟩
  | 119 => ⟨S_, .i32⟩
  | 120 => ⟨S1024x50, .i32⟩
  | 121 => ⟨S1024x50, .i32⟩
  | 122 => ⟨S1024x50, .i32⟩
  | 123 => ⟨S1024x50x1, .i32⟩
  | 124 => ⟨S1, .i32⟩
  | 125 => ⟨S_, .i32⟩
  | 126 => ⟨S1024x50x1, .i32⟩
  | 127 => ⟨S1024x50x1, .i1⟩
  | _ => ⟨S1024x50x7, .i32⟩

abbrev hbmTy0_1 (i : Nat) : BufTy := match i % 128 with
  | 0 => ⟨S1x1x1, .i32⟩
  | 1 => ⟨S1024x50x1, .i32⟩
  | 2 => ⟨S1024x50x1, .i1⟩
  | 3 => ⟨S1024x50x1, .i1⟩
  | 4 => ⟨S_, .i1⟩
  | 5 => ⟨S1024x50, .i1⟩
  | 6 => ⟨S1024x50x64, .f32⟩
  | 7 => ⟨S1024x50x64, .i1⟩
  | 8 => ⟨S_, .f32⟩
  | 9 => ⟨S1024x50x64, .f32⟩
  | 10 => ⟨S1024x50x64, .f32⟩
  | 11 => ⟨S1024x50x64, .f32⟩
  | 12 => ⟨S1x1x64, .f32⟩
  | 13 => ⟨S1024x50x64, .f32⟩
  | 14 => ⟨S1024x50x64, .f32⟩
  | 15 => ⟨S1024x50x64, .f32⟩
  | 16 => ⟨S1x1x64, .f32⟩
  | 17 => ⟨S1024x50x64, .f32⟩
  | 18 => ⟨S1024x50x64, .f32⟩
  | 19 => ⟨S1024x50x64, .f32⟩
  | 20 => ⟨S1x1x64, .f32⟩
  | 21 => ⟨S1024x50x64, .f32⟩
  | 22 => ⟨S1024x50x64, .f32⟩
  | 23 => ⟨S1024x50x384, .f32⟩
  | 24 => ⟨S1024x50x1x384, .f32⟩
  | 25 => ⟨S1024x50x7x384, .f32⟩
  | 26 => ⟨S1024x50x7x448, .f32⟩
  | 27 => ⟨S1024x50x7x64, .f32⟩
  | 28 => ⟨S1x1x1x64, .f32⟩
  | 29 => ⟨S1024x50x7x64, .f32⟩
  | 30 => ⟨S1024x50x7x64, .f32⟩
  | 31 => ⟨S_, .f32⟩
  | 32 => ⟨S1024x50x7, .f32⟩
  | 33 => ⟨S1024x50x7x1, .f32⟩
  | 34 => ⟨S_, .f32⟩
  | 35 => ⟨S1024x50x7x1, .f32⟩
  | 36 => ⟨S1024x50x7x1, .f32⟩
  | 37 => ⟨S1024x50x7x64, .f32⟩
  | 38 => ⟨S1024x50x7x64, .f32⟩
  | 39 => ⟨S1024x50x7x64, .f32⟩
  | 40 => ⟨S_, .f32⟩
  | 41 => ⟨S1024x50x7, .f32⟩
  | 42 => ⟨S1024x50x7x1, .f32⟩
  | 43 => ⟨S_, .f32⟩
  | 44 => ⟨S1024x50x7x1, .f32⟩
  | 45 => ⟨S1024x50x7x1, .f32⟩
  | 46 => ⟨S1024x50x7x64, .f32⟩
  | 47 => ⟨S1024x50x7x64, .f32⟩
  | 48 => ⟨S_, .f32⟩
  | 49 => ⟨S1024x50x7x1, .f32⟩
  | 50 => ⟨S1024x50x7x1, .f32⟩
  | 51 => ⟨S1024x50x7x1, .f32⟩
  | 52 => ⟨S1024x50x7x64, .f32⟩
  | 53 => ⟨S1024x50x7x64, .f32⟩
  | 54 => ⟨S1x1x1x64, .f32⟩
  | 55 => ⟨S1024x50x7x64, .f32⟩
  | 56 => ⟨S1024x50x7x64, .f32⟩
  | 57 => ⟨S1x1x1x64, .f32⟩
  | 58 => ⟨S1024x50x7x64, .f32⟩
  | 59 => ⟨S1024x50x7x64, .f32⟩
  | 60 => ⟨S1x1x7x64, .f32⟩
  | 61 => ⟨S1024x50x7x64, .f32⟩
  | 62 => ⟨S1024x50x7x64, .f32⟩
  | 63 => ⟨S1024x350x64, .f32⟩
  | 64 => ⟨S50, .i32⟩
  | 65 => ⟨S1x50, .i32⟩
  | 66 => ⟨S1024x1, .i32⟩
  | 67 => ⟨S1024x50, .i32⟩
  | 68 => ⟨S1024x50, .i32⟩
  | 69 => ⟨S1024x50, .i1⟩
  | 70 => ⟨S1024x50, .f32⟩
  | 71 => ⟨S1024x50x7, .f32⟩
  | 72 => ⟨S1024x350, .f32⟩
  | 73 => ⟨S1024x350x1, .f32⟩
  | 74 => ⟨S1024x350x64, .f32⟩
  | 75 => ⟨S1024x350x64, .f32⟩
  | _ => ⟨S1024x50x7, .i32⟩

abbrev hbmTy (i : Nat) : BufTy := match i / 128 with
  | 0 => hbmTy0_0 i
  | 1 => hbmTy0_1 i
  | _ => ⟨S1024x50x7, .i32⟩

abbrev bufTy : (tb : Table) → Fin (tcTables nBuf tb) → BufTy
  | .hbm, ⟨i, _⟩ => hbmTy i
  | _, _ => ⟨S1024x50x7, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v0 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v1 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v2 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_cst : Ref sig .tc := ⟨.hbm, 113, rfl⟩
abbrev main_call3_v15 : Ref sig .tc := ⟨.hbm, 114, rfl⟩
abbrev main_v3 : Ref sig .tc := ⟨.hbm, 115, rfl⟩
abbrev main_call4_c : Ref sig .tc := ⟨.hbm, 116, rfl⟩
abbrev main_call4_v0 : Ref sig .tc := ⟨.hbm, 117, rfl⟩
abbrev main_call4_v1 : Ref sig .tc := ⟨.hbm, 118, rfl⟩
abbrev main_call4_c_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_c_1 : Ref sig .tc := ⟨.hbm, 124, rfl⟩
abbrev main_call4_c_2 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_3 : Ref sig .tc := ⟨.hbm, 132, rfl⟩
abbrev main_call4_v12 : Ref sig .tc := ⟨.hbm, 133, rfl⟩
abbrev main_call4_v13 : Ref sig .tc := ⟨.hbm, 134, rfl⟩
abbrev main_call4_v14 : Ref sig .tc := ⟨.hbm, 135, rfl⟩
abbrev main_call4_cst : Ref sig .tc := ⟨.hbm, 136, rfl⟩
abbrev main_call4_v15 : Ref sig .tc := ⟨.hbm, 137, rfl⟩
abbrev main_v4 : Ref sig .tc := ⟨.hbm, 138, rfl⟩
abbrev main_v5 : Ref sig .tc := ⟨.hbm, 139, rfl⟩
abbrev main_v6 : Ref sig .tc := ⟨.hbm, 140, rfl⟩
abbrev main_v7 : Ref sig .tc := ⟨.hbm, 141, rfl⟩
abbrev main_v8 : Ref sig .tc := ⟨.hbm, 142, rfl⟩
abbrev main_v9 : Ref sig .tc := ⟨.hbm, 143, rfl⟩
abbrev main_v10 : Ref sig .tc := ⟨.hbm, 144, rfl⟩
abbrev main_v11 : Ref sig .tc := ⟨.hbm, 145, rfl⟩
abbrev main_v12 : Ref sig .tc := ⟨.hbm, 146, rfl⟩
abbrev main_v13 : Ref sig .tc := ⟨.hbm, 147, rfl⟩
abbrev main_v14 : Ref sig .tc := ⟨.hbm, 148, rfl⟩
abbrev main_v15 : Ref sig .tc := ⟨.hbm, 149, rfl⟩
abbrev main_v16 : Ref sig .tc := ⟨.hbm, 150, rfl⟩
abbrev main_v17 : Ref sig .tc := ⟨.hbm, 151, rfl⟩
abbrev main_v18 : Ref sig .tc := ⟨.hbm, 152, rfl⟩
abbrev main_v19 : Ref sig .tc := ⟨.hbm, 153, rfl⟩
abbrev main_v20 : Ref sig .tc := ⟨.hbm, 154, rfl⟩
abbrev main_v21 : Ref sig .tc := ⟨.hbm, 155, rfl⟩
abbrev main_v22 : Ref sig .tc := ⟨.hbm, 156, rfl⟩
abbrev main_v23 : Ref sig .tc := ⟨.hbm, 157, rfl⟩
abbrev main_v24 : Ref sig .tc := ⟨.hbm, 158, rfl⟩
abbrev main_cst : Ref sig .tc := ⟨.hbm, 159, rfl⟩
abbrev main_v25 : Ref sig .tc := ⟨.hbm, 160, rfl⟩
abbrev main_v26 : Ref sig .tc := ⟨.hbm, 161, rfl⟩
abbrev main_cst_0 : Ref sig .tc := ⟨.hbm, 162, rfl⟩
abbrev main_v27 : Ref sig .tc := ⟨.hbm, 163, rfl⟩
abbrev main_v28 : Ref sig .tc := ⟨.hbm, 164, rfl⟩
abbrev main_v29 : Ref sig .tc := ⟨.hbm, 165, rfl⟩
abbrev main_v30 : Ref sig .tc := ⟨.hbm, 166, rfl⟩
abbrev main_v31 : Ref sig .tc := ⟨.hbm, 167, rfl⟩
abbrev main_cst_1 : Ref sig .tc := ⟨.hbm, 168, rfl⟩
abbrev main_v32 : Ref sig .tc := ⟨.hbm, 169, rfl⟩
abbrev main_v33 : Ref sig .tc := ⟨.hbm, 170, rfl⟩
abbrev main_cst_2 : Ref sig .tc := ⟨.hbm, 171, rfl⟩
abbrev main_v34 : Ref sig .tc := ⟨.hbm, 172, rfl⟩
abbrev main_v35 : Ref sig .tc := ⟨.hbm, 173, rfl⟩
abbrev main_v36 : Ref sig .tc := ⟨.hbm, 174, rfl⟩
abbrev main_v37 : Ref sig .tc := ⟨.hbm, 175, rfl⟩
abbrev main_cst_3 : Ref sig .tc := ⟨.hbm, 176, rfl⟩
abbrev main_v38 : Ref sig .tc := ⟨.hbm, 177, rfl⟩
abbrev main_v39 : Ref sig .tc := ⟨.hbm, 178, rfl⟩
abbrev main_v40 : Ref sig .tc := ⟨.hbm, 179, rfl⟩
abbrev main_v41 : Ref sig .tc := ⟨.hbm, 180, rfl⟩
abbrev main_v42 : Ref sig .tc := ⟨.hbm, 181, rfl⟩
abbrev main_v43 : Ref sig .tc := ⟨.hbm, 182, rfl⟩
abbrev main_v44 : Ref sig .tc := ⟨.hbm, 183, rfl⟩
abbrev main_v45 : Ref sig .tc := ⟨.hbm, 184, rfl⟩
abbrev main_v46 : Ref sig .tc := ⟨.hbm, 185, rfl⟩
abbrev main_v47 : Ref sig .tc := ⟨.hbm, 186, rfl⟩
abbrev main_v48 : Ref sig .tc := ⟨.hbm, 187, rfl⟩
abbrev main_v49 : Ref sig .tc := ⟨.hbm, 188, rfl⟩
abbrev main_v50 : Ref sig .tc := ⟨.hbm, 189, rfl⟩
abbrev main_v51 : Ref sig .tc := ⟨.hbm, 190, rfl⟩
abbrev main_v52 : Ref sig .tc := ⟨.hbm, 191, rfl⟩
abbrev main_v53 : Ref sig .tc := ⟨.hbm, 192, rfl⟩
abbrev main_v54 : Ref sig .tc := ⟨.hbm, 193, rfl⟩
abbrev main_v55 : Ref sig .tc := ⟨.hbm, 194, rfl⟩
abbrev main_v56 : Ref sig .tc := ⟨.hbm, 195, rfl⟩
abbrev main_v57 : Ref sig .tc := ⟨.hbm, 196, rfl⟩
abbrev main_v58 : Ref sig .tc := ⟨.hbm, 197, rfl⟩
abbrev main_v59 : Ref sig .tc := ⟨.hbm, 198, rfl⟩
abbrev main_v60 : Ref sig .tc := ⟨.hbm, 199, rfl⟩
abbrev main_v61 : Ref sig .tc := ⟨.hbm, 200, rfl⟩
abbrev main_v62 : Ref sig .tc := ⟨.hbm, 201, rfl⟩
abbrev main_v63 : Ref sig .tc := ⟨.hbm, 202, rfl⟩
abbrev main_v64 : Ref sig .tc := ⟨.hbm, 203, rfl⟩

abbrev nD : Nat := 1
abbrev τ : Topo := Topo.v7x

variable {F : FTy → Type} [FloatOps F]
-- ==== Proof.KRun.lean ====
/- The kernel's launch with its two results named: every run ends with each result array at the contents that the last
   segment boundary of the frame's fold holds, and the arguments as launched. -/
module

public import proofs.«01_k».proof.Proof.Gen.KernelIdeal.Frame

@[expose] public section

set_option maxRecDepth 16384

noncomputable section

namespace Cert.KernelIdeal.Res

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
-- The resource algebra's predicates range over the machine's memory, semaphores and pipeline cells.
local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with the statement
set_option backward.isDefEq.respectTransparency.types false in
/-- THE RUN: every weakly fair execution ends with the embeddings and the mask at the last boundary's contents and every
    argument array as launched. -/
theorem run_results : θ_run defs (onTc (τ := τ) (main (F := F))) ⟨m, fun _ => 0, ρ⟩ (fun r => ∀ c : Dev nD,
      r.2.mem ((c.tc : Thread nD τ).loc main_v21) = W5 m ρ c (Proc.devRef .tc main_v21)
      ∧ r.2.mem ((c.tc : Thread nD τ).loc main_v20_1) = W5 m ρ c (Proc.devRef .tc main_v20_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v21 (by decide)), h c _ (mem_uc main_v20_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c),
       (h c _ (mem_uc main_arg20 (by decide))).trans (W5_main_arg20 m ρ c),
       (h c _ (mem_uc main_arg21 (by decide))).trans (W5_main_arg21 m ρ c),
       (h c _ (mem_uc main_arg22 (by decide))).trans (W5_main_arg22 m ρ c)⟩)

end Cert.KernelIdeal.Res

end
-- ==== Proof.Lin.lean ====
/- The algebra of one row. Values are extended reals. Both programs combine table entries, which may be infinite, with
   finite coefficients; a sum that meets an infinity is infinite, whichever infinity it is, and layer normalisation
   takes either infinity to zero. So it suffices to follow a value up to the sign of an infinity: `flat` sends both
   infinities to one absorbing top element, and on its image sums may be exchanged with finite coefficients. -/
module

public import Idealize.ShloMosaic.Lib.Pointwise
public import Idealize.ShloMosaic.Lib.IdealHost

@[expose] public section

noncomputable section

namespace Cert.Row

open Idealize.ShloMosaic
open scoped BigOperators

/-! ## The value of a number up to the sign of an infinity -/

/-- A real number is itself; both infinities are the one top element. -/
def flat (x : EReal) : WithTop ℝ := WithBot.unbotD ⊤ x

/-- `flat` of a real is that real. -/
theorem flat_coe (r : ℝ) : flat (r : EReal) = (r : WithTop ℝ) := rfl
/-- `flat` of plus infinity is the top element. -/
theorem flat_top : flat ⊤ = ⊤ := rfl
/-- `flat` of minus infinity is the top element. -/
theorem flat_bot : flat ⊥ = ⊤ := rfl
/-- `flat` of zero is zero. -/
theorem flat_zero : flat 0 = 0 := rfl

/-- `flat` of a sum is the sum of the `flat`s: a sum with an infinite summand is infinite. -/
theorem flat_add (x y : EReal) : flat (x + y) = flat x + flat y := by
  induction x using EReal.rec <;> induction y using EReal.rec <;>
    first
      | (rw [← EReal.coe_add]; simp only [flat_coe]; rfl)
      | simp [flat_top, flat_bot, flat_coe]

/-- `flat` as a map of additive monoids. -/
def flatHom : EReal →+ WithTop ℝ where
  toFun := flat
  map_zero' := flat_zero
  map_add' := flat_add

/-- `flat` of a finite sum. -/
theorem flat_sum {ι : Type} (s : Finset ι) (f : ι → EReal) : flat (∑ i ∈ s, f i) = ∑ i ∈ s, flat (f i) :=
  map_sum flatHom f s

/-- A number whose `flat` is real is that real. -/
theorem eq_of_flat_coe {x : EReal} {r : ℝ} (h : flat x = (r : WithTop ℝ)) : x = (r : EReal) := by
  induction x using EReal.rec with
  | bot => exact absurd h.symm (WithTop.coe_ne_top)
  | top => exact absurd h.symm (WithTop.coe_ne_top)
  | coe s => rw [flat_coe, WithTop.coe_inj] at h; rw [h]

/-- A number whose `flat` is the top element is one of the two infinities. -/
theorem eq_of_flat_top {x : EReal} (h : flat x = ⊤) : x = ⊤ ∨ x = ⊥ := by
  induction x using EReal.rec with
  | bot => exact Or.inr rfl
  | top => exact Or.inl rfl
  | coe s => exact absurd h WithTop.coe_ne_top

/-! ## A finite coefficient -/

/-- A real coefficient times a value: zero times anything is zero, any other coefficient keeps an infinity. -/
def scl (r : ℝ) (a : WithTop ℝ) : WithTop ℝ := if r = 0 then 0 else a.map (r * ·)

/-- A multiple of a real is the product. -/
theorem scl_coe (r s : ℝ) : scl r (s : WithTop ℝ) = ((r * s : ℝ) : WithTop ℝ) := by
  unfold scl; split
  · subst r; simp
  · rfl

/-- A nonzero multiple of the top element is the top element. -/
theorem scl_top {r : ℝ} (h : r ≠ 0) : scl r ⊤ = ⊤ := by simp [scl, h]
/-- The zero multiple is zero. -/
theorem scl_zero_left (a : WithTop ℝ) : scl 0 a = 0 := if_pos rfl
/-- A multiple of zero is zero. -/
theorem scl_zero (r : ℝ) : scl r 0 = 0 := by rw [← WithTop.coe_zero, scl_coe, mul_zero]
/-- The multiple by one changes nothing. -/
theorem scl_one (a : WithTop ℝ) : scl 1 a = a := by
  cases a with
  | top => exact scl_top one_ne_zero
  | coe s => rw [scl_coe, one_mul]

/-- A multiple of a sum is the sum of the multiples. -/
theorem scl_add (r : ℝ) (a b : WithTop ℝ) : scl r (a + b) = scl r a + scl r b := by
  by_cases h : r = 0
  · subst h; simp [scl_zero_left]
  · cases a with
    | top => rw [WithTop.top_add, scl_top h, WithTop.top_add]
    | coe s =>
      cases b with
      | top => rw [WithTop.add_top, scl_top h, WithTop.add_top]
      | coe t => rw [← WithTop.coe_add, scl_coe, scl_coe, scl_coe, ← WithTop.coe_add, mul_add]

/-- A coefficient as a map of additive monoids. -/
def sclHom (r : ℝ) : WithTop ℝ →+ WithTop ℝ where
  toFun := scl r
  map_zero' := scl_zero r
  map_add' := scl_add r

/-- A multiple of a finite sum is the sum of the multiples. -/
theorem scl_sum {ι : Type} (r : ℝ) (s : Finset ι) (f : ι → WithTop ℝ) : scl r (∑ i ∈ s, f i) = ∑ i ∈ s, scl r (f i) :=
  map_sum (sclHom r) f s

/-- Two coefficients may be exchanged. -/
theorem scl_comm (r s : ℝ) (a : WithTop ℝ) : scl r (scl s a) = scl s (scl r a) := by
  by_cases hr : r = 0
  · subst hr; simp [scl_zero_left, scl_zero]
  by_cases hs : s = 0
  · subst hs; simp [scl_zero_left, scl_zero]
  cases a with
  | top => simp only [scl_top hr, scl_top hs]
  | coe t => simp only [scl_coe]; rw [mul_left_comm]

/-- `flat` of a product whose left factor is real. -/
theorem flat_mul (r : ℝ) (x : EReal) : flat ((r : EReal) * x) = scl r (flat x) := by
  induction x using EReal.rec with
  | coe s => rw [← EReal.coe_mul, flat_coe, flat_coe, scl_coe]
  | bot =>
    rcases lt_trichotomy r 0 with h | h | h
    · rw [EReal.coe_mul_bot_of_neg h, flat_top, flat_bot, scl_top h.ne]
    · subst h; rw [EReal.coe_zero, zero_mul, scl_zero_left, flat_zero]
    · rw [EReal.coe_mul_bot_of_pos h, flat_bot, scl_top h.ne']
  | top =>
    rcases lt_trichotomy r 0 with h | h | h
    · rw [EReal.coe_mul_top_of_neg h, flat_bot, flat_top, scl_top h.ne]
    · subst h; rw [EReal.coe_zero, zero_mul, scl_zero_left, flat_zero]
    · rw [EReal.coe_mul_top_of_pos h, flat_top, scl_top h.ne']

/-! ## Taking the mean away -/

/-- A family of 64 values less its mean. -/
def cen (u : Fin 64 → WithTop ℝ) (j : Fin 64) : WithTop ℝ := u j + scl (-(1 / 64)) (∑ k, u k)

/-- Taking the mean away, of a sum of families. -/
theorem cen_add (u v : Fin 64 → WithTop ℝ) (j : Fin 64) : cen (fun k => u k + v k) j = cen u j + cen v j := by
  simp only [cen, Finset.sum_add_distrib, scl_add]; exact add_add_add_comm _ _ _ _

/-- Taking the mean away, of a multiple of a family. -/
theorem cen_scl (r : ℝ) (u : Fin 64 → WithTop ℝ) (j : Fin 64) : cen (fun k => scl r (u k)) j = scl r (cen u j) := by
  simp only [cen, scl_add, ← scl_sum]; rw [scl_comm]

/-- Taking the mean away, of a finite sum of families. -/
theorem cen_sum {ι : Type} (s : Finset ι) (u : ι → Fin 64 → WithTop ℝ) (j : Fin 64) :
    cen (fun k => ∑ i ∈ s, u i k) j = ∑ i ∈ s, cen (u i) j := by
  simp only [cen]
  rw [Finset.sum_comm, scl_sum, ← Finset.sum_add_distrib]

/-- The 32-bit word `0x42800000` is 64. -/
theorem ofBits_64 : Ideal.ofBits .f32 0x42800000#32 = ((64 : ℝ) : EReal) := by
  simp [Ideal.ofBits, Ideal.ieee, -EReal.coe_mul]; norm_num

/-- The 32-bit word `0x3C800000` is one sixty-fourth. -/
theorem ofBits_inv64 : Ideal.ofBits .f32 0x3C800000#32 = ((1 / 64 : ℝ) : EReal) := by
  simp [Ideal.ofBits, Ideal.ieee, -EReal.coe_mul]; norm_num

/-- The 32-bit word `0x3727C5AC` is a positive real. -/
theorem ofBits_eps : ∃ e : ℝ, 0 < e ∧ Ideal.ofBits .f32 0x3727C5AC#32 = (e : EReal) := by
  refine ⟨(2 ^ 23 + 2606508 : ℕ) * (2 : ℝ) ^ (-40 : ℤ), by positivity, ?_⟩
  simp [Ideal.ofBits, Ideal.ieee, -EReal.coe_mul]

/-- What both programs compute for a value less its mean: the sum divided by 64, taken away. -/
def sub_mean (x : Fin 64 → EReal) (j : Fin 64) : EReal := x j - Ideal.div (∑ k, x k) (Ideal.ofBits .f32 0x42800000#32)

/-- `flat` of a value less its mean. -/
theorem flat_sub_mean (x : Fin 64 → EReal) (j : Fin 64) : flat (sub_mean x j) = cen (fun k => flat (x k)) j := by
  have h : sub_mean x j = x j + ((-(1 / 64) : ℝ) : EReal) * ∑ k, x k := by
    unfold sub_mean
    rw [ofBits_64, Ideal.div_coe (by norm_num), EReal.coe_neg, EReal.neg_mul, mul_comm, sub_eq_add_neg]
  rw [h, flat_add, flat_mul, flat_sum, cen]

/-- A family less its mean is finite everywhere or infinite everywhere. -/
theorem cen_real_or_top (u : Fin 64 → WithTop ℝ) : (∃ r : Fin 64 → ℝ, ∀ j, cen u j = (r j : WithTop ℝ)) ∨ ∀ j, cen u j = ⊤ := by
  by_cases h : ∃ k, u k = ⊤
  · refine Or.inr fun j => ?_
    have hs : ∑ k, u k = ⊤ := WithTop.sum_eq_top.2 (by obtain ⟨k, hk⟩ := h; exact ⟨k, Finset.mem_univ k, hk⟩)
    rw [cen, hs, scl_top (by norm_num), WithTop.add_top]
  · refine Or.inl ?_
    have h' : ∀ k, ∃ r : ℝ, u k = (r : WithTop ℝ) := fun k => by
      obtain ⟨r, hr⟩ := WithTop.ne_top_iff_exists.1 fun e => h ⟨k, e⟩
      exact ⟨r, hr.symm⟩
    choose r hr using h'
    refine ⟨fun j => r j + -(1 / 64) * ∑ k, r k, fun j => ?_⟩
    rw [cen, hr j, Finset.sum_congr rfl fun k _ => hr k, ← WithTop.coe_sum, scl_coe, ← WithTop.coe_add]

/-! ## The two forms of the normalisation -/

/-- The kernel's form: the value times the reciprocal root of the mean square plus the small constant. -/
def normK (x : Fin 64 → EReal) (j : Fin 64) : EReal :=
  x j * Ideal.rsqrt ((∑ k, x k * x k) * Ideal.ofBits .f32 0x3C800000#32 + Ideal.ofBits .f32 0x3727C5AC#32)

/-- The reference's form: the value divided by the root of the mean square plus the small constant. -/
def normR (x : Fin 64 → EReal) (j : Fin 64) : EReal :=
  Ideal.div (x j) (Ideal.sqrt (Ideal.div (∑ k, x k * x k) (Ideal.ofBits .f32 0x42800000#32) + Ideal.ofBits .f32 0x3727C5AC#32))

/-- The root of a positive real. -/
theorem sqrt_pos_coe {r : ℝ} (h : 0 < r) : Ideal.sqrt (r : EReal) = ((Real.sqrt r : ℝ) : EReal) := if_neg h.le.not_gt

/-- The reciprocal root of a positive real. -/
theorem rsqrt_pos_coe {r : ℝ} (h : 0 < r) : Ideal.rsqrt (r : EReal) = (((Real.sqrt r)⁻¹ : ℝ) : EReal) :=
  (if_neg h.le.not_gt).trans (if_neg h.ne')

/-- On a row of reals the two forms agree. -/
theorem normK_eq_normR_real (r : Fin 64 → ℝ) (j : Fin 64) :
    normK (fun k => (r k : EReal)) j = normR (fun k => (r k : EReal)) j := by
  obtain ⟨e, he, hE⟩ := ofBits_eps
  have hs : ∑ k, (r k : EReal) * (r k : EReal) = ((∑ k, r k * r k : ℝ) : EReal) := by
    simp only [← EReal.coe_mul]; exact (map_sum (⟨⟨Real.toEReal, EReal.coe_zero⟩, EReal.coe_add⟩ : ℝ →+ EReal) _ _).symm
  have h0 : 0 ≤ ∑ k, r k * r k := Finset.sum_nonneg fun k _ => mul_self_nonneg _
  have hv : 0 < (∑ k, r k * r k) * (1 / 64) + e := by positivity
  unfold normK normR
  rw [hE, ofBits_64, ofBits_inv64, Ideal.div_coe (by norm_num), hs, ← EReal.coe_mul, ← EReal.coe_add]
  rw [rsqrt_pos_coe hv, sqrt_pos_coe hv, Ideal.div_coe (Real.sqrt_pos.2 hv).ne']
  simp only [one_div]

/-- On a row of infinities both forms are zero. -/
theorem norm_top (x : Fin 64 → EReal) (h : ∀ k, x k = ⊤ ∨ x k = ⊥) (j : Fin 64) : normK x j = 0 ∧ normR x j = 0 := by
  obtain ⟨e, he, hE⟩ := ofBits_eps
  have hs : ∑ k, x k * x k = ⊤ := by
    have h1 : ∀ k, x k * x k = ⊤ := fun k => by rcases h k with h | h <;> rw [h] <;> rfl
    have h2 : ∀ n : ℕ, ∑ _k : Fin (n + 1), (⊤ : EReal) = ⊤ := fun n => by
      induction n with
      | zero => simp
      | succ n ih => rw [Fin.sum_univ_succ, ih]; rfl
    rw [Finset.sum_congr rfl fun k _ => h1 k]; exact h2 63
  unfold normK normR
  rw [hE, ofBits_64, ofBits_inv64, Ideal.div_coe (by norm_num), hs, EReal.top_mul_coe_of_pos (by norm_num), EReal.top_add_coe]
  refine ⟨mul_zero _, ?_⟩
  rw [show Ideal.sqrt ⊤ = ⊤ from rfl, Ideal.div, if_neg EReal.top_ne_zero, EReal.inv_top, mul_zero]

/-- Two rows with the same `flat`, that of some family less its mean, normalise alike in the two forms. -/
theorem normK_eq_normR (x y : Fin 64 → EReal) (u : Fin 64 → WithTop ℝ) (hx : ∀ j, flat (x j) = cen u j)
    (hy : ∀ j, flat (y j) = cen u j) (j : Fin 64) : normK x j = normR y j := by
  rcases cen_real_or_top u with ⟨r, hr⟩ | ht
  · obtain rfl : x = fun k => (r k : EReal) := funext fun k => eq_of_flat_coe ((hx k).trans (hr k))
    obtain rfl : y = fun k => (r k : EReal) := funext fun k => eq_of_flat_coe ((hy k).trans (hr k))
    exact normK_eq_normR_real r j
  · rw [(norm_top x (fun k => eq_of_flat_top ((hx k).trans (ht k))) j).1,
      (norm_top y (fun k => eq_of_flat_top ((hy k).trans (ht k))) j).2]

/-! ## A projection with finite weights -/

/-- A vector times a 64 by 64 block of weights. -/
def proj (w : Fin 64 → Fin 64 → EReal) (v : Fin 64 → EReal) (j : Fin 64) : EReal := ∑ d, v d * w d j

/-- Finite weights. -/
def fin (w : Fin 64 → Fin 64 → ℝ) : Fin 64 → Fin 64 → EReal := fun d j => (w d j : EReal)

/-- The same up to the sign of an infinity. -/
def lin (w : Fin 64 → Fin 64 → ℝ) (u : Fin 64 → WithTop ℝ) (j : Fin 64) : WithTop ℝ := ∑ d, scl (w d j) (u d)

/-- `flat` of a projected row. -/
theorem flat_proj (w : Fin 64 → Fin 64 → ℝ) (v : Fin 64 → EReal) (j : Fin 64) :
    flat (proj (fin w) v j) = lin w (fun d => flat (v d)) j := by
  unfold proj lin fin
  rw [flat_sum]
  exact Finset.sum_congr rfl fun d _ => by rw [mul_comm, flat_mul]

/-- The projection of a sum of rows. -/
theorem lin_add (w : Fin 64 → Fin 64 → ℝ) (u v : Fin 64 → WithTop ℝ) (j : Fin 64) :
    lin w (fun d => u d + v d) j = lin w u j + lin w v j := by
  simp only [lin, scl_add, Finset.sum_add_distrib]

/-- The projection of a multiple of a row. -/
theorem lin_scl (w : Fin 64 → Fin 64 → ℝ) (r : ℝ) (u : Fin 64 → WithTop ℝ) (j : Fin 64) :
    lin w (fun d => scl r (u d)) j = scl r (lin w u j) := by
  simp only [lin, scl_sum]
  exact Finset.sum_congr rfl fun d _ => scl_comm _ _ _

/-- The projection of a finite sum of rows. -/
theorem lin_sum {ι : Type} (w : Fin 64 → Fin 64 → ℝ) (s : Finset ι) (u : ι → Fin 64 → WithTop ℝ) (j : Fin 64) :
    lin w (fun d => ∑ i ∈ s, u i d) j = ∑ i ∈ s, lin w (u i) j := by
  simp only [lin, scl_sum]
  exact Finset.sum_comm

/-- A finite combination of table rows, projected. -/
theorem flat_proj_comb {n : ℕ} (w : Fin 64 → Fin 64 → ℝ) (s : Fin n → ℝ) (T : Fin n → Fin 64 → EReal) (b : Fin 64 → EReal)
    (j : Fin 64) : flat (proj (fin w) (fun d => (∑ p, (s p : EReal) * T p d) + b d) j)
      = ∑ p, scl (s p) (lin w (fun d => flat (T p d)) j) + lin w (fun d => flat (b d)) j := by
  rw [flat_proj]
  simp only [flat_add, flat_sum, flat_mul, lin_add, lin_sum, lin_scl]

/-- A finite combination of projected rows, each less its mean. -/
theorem flat_comb_sub_mean {n : ℕ} (w : Fin 64 → Fin 64 → ℝ) (s : Fin n → ℝ) (T : Fin n → Fin 64 → EReal) (j : Fin 64) :
    flat (∑ p, (s p : EReal) * sub_mean (proj (fin w) (T p)) j)
      = cen (fun k => ∑ p, scl (s p) (lin w (fun d => flat (T p d)) k)) j := by
  rw [flat_sum, cen_sum]
  refine Finset.sum_congr rfl fun p _ => ?_
  rw [flat_mul, flat_sub_mean, cen_scl]
  simp only [flat_proj]

/-! ## One row: the kernel's sum of projected rows, the reference's projection of the concatenated row -/

section Row
variable (w : Fin 7 → Fin 64 → Fin 64 → EReal) (s : Fin 2 → ℝ) (b : Fin 9 → ℝ) (a : Fin 16 → ℝ)
  (card hero acting num bs bb ba bc : Fin 64 → EReal)
  (Ws : Fin 2 → Fin 64 → EReal) (Wb : Fin 9 → Fin 64 → EReal) (Wa : Fin 16 → Fin 64 → EReal)

/-- The kernel's row: projected table rows, each less its mean, and a bias less its mean, combined. -/
def rowK (j : Fin 64) : EReal :=
  sub_mean (proj (w 0) card) j
    + ((((((∑ p, (s p : EReal) * sub_mean (proj (w 4) (Ws p)) j)
        + ∑ p, (b p : EReal) * sub_mean (proj (w 5) (Wb p)) j)
        + ∑ p, (a p : EReal) * sub_mean (proj (w 6) (Wa p)) j)
        + sub_mean (proj (w 1) hero) j)
        + sub_mean (proj (w 2) acting) j)
        + sub_mean (proj (w 3) num) j
      + sub_mean (fun k => ((bc k + proj (w 4) bs k) + proj (w 5) bb k) + proj (w 6) ba k) j)

/-- The reference's row: the concatenated row projected, and the bias. -/
def rowR (j : Fin 64) : EReal :=
  ((((((proj (w 0) card j + proj (w 1) hero j) + proj (w 2) acting j) + proj (w 3) num j)
    + proj (w 4) (fun d => (∑ p, (s p : EReal) * Ws p d) + bs d) j)
    + proj (w 5) (fun d => (∑ p, (b p : EReal) * Wb p d) + bb d) j)
    + proj (w 6) (fun d => (∑ p, (a p : EReal) * Wa p d) + ba d) j) + bc j

variable {w} {u : Fin 3 → Fin 64 → Fin 64 → ℝ} (h4 : w 4 = fin (u 0)) (h5 : w 5 = fin (u 1)) (h6 : w 6 = fin (u 2))

include h4 h5 h6 in
/-- Up to the sign of an infinity the kernel's row is the reference's row less its mean. -/
theorem flat_rowK (j : Fin 64) : flat (rowK w s b a card hero acting num bs bb ba bc Ws Wb Wa j)
    = cen (fun k => flat (rowR w s b a card hero acting num bs bb ba bc Ws Wb Wa k)) j := by
  simp only [rowK, rowR, h4, h5, h6, flat_add, flat_comb_sub_mean, flat_sub_mean, flat_proj_comb, ← cen_add]
  refine congrArg (fun u => cen u j) (funext fun k => ?_)
  simp only [flat_proj]
  ac_rfl

include h4 h5 h6 in
/-- The kernel's normalised row is the reference's. -/
theorem normK_rowK (j : Fin 64) : normK (rowK w s b a card hero acting num bs bb ba bc Ws Wb Wa) j
    = normR (sub_mean (rowR w s b a card hero acting num bs bb ba bc Ws Wb Wa)) j :=
  normK_eq_normR _ _ _ (flat_rowK s b a card hero acting num bs bb ba bc Ws Wb Wa h4 h5 h6) (flat_sub_mean _) j

end Row

end Cert.Row

end
-- ==== Proof.PrepPure.lean ====
/- What the first kernel computes, read at an index. -/
module

public import proofs.«01_k».proof.Proof.Gen.KernelIdeal.Skeleton
public import proofs.«01_k».proof.Proof.Lin

@[expose] public section

set_option maxRecDepth 16384

noncomputable section

namespace Cert.KernelIdeal.Prep

open Idealize.ShloMosaic Idealize.ShloMosaic.TcCoe Idealize.SL.Sem
open Cert.KernelIdeal Cert.KernelIdeal.Gen Cert.Row
open scoped BigOperators

/-- Row `64 b + d` of the projection matrix. -/
def wrow (b : Fin 7) (d : Fin 64) : Fin 448 := ⟨b.val * 64 + d.val, by omega⟩

/-- A comparison for equality, widened and converted: one where the words are equal, zero elsewhere. -/
theorem indicator_word (a b : BitVec 32) :
    FloatOps.sitofp (F := Ideal) .f32 (BitVec.setWidth 32 (IntOp.cmpi CmpIPredicate.eq a b)) = if a = b then (1 : EReal) else 0 := by
  by_cases h : a = b
  · subst h
    rw [if_pos rfl, show BitVec.setWidth 32 (IntOp.cmpi CmpIPredicate.eq a a) = 1#32 by simp [IntOp.cmpi]]
    show (((1#32).toInt : ℝ) : EReal) = 1
    simp
  · rw [if_neg h, show BitVec.setWidth 32 (IntOp.cmpi CmpIPredicate.eq a b) = 0#32 by
      simp [IntOp.cmpi, beq_false_of_ne h]]
    show (((0#32).toInt : ℝ) : EReal) = 0
    simp

/-- The printed floor division of a lane number by 64. -/
theorem word_div64 (k : Fin 448) : Scalar.select
      (IntOp.andi
        (IntOp.cmpi CmpIPredicate.ne
          (IntOp.subi (BitVec.setWidth 32 (IntOp.cmpi CmpIPredicate.sgt (BitVec.ofNat 32 k.val) 0#32))
            (BitVec.setWidth 32 (IntOp.cmpi CmpIPredicate.slt (BitVec.ofNat 32 k.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 k.val) 64#32) 0#32))
      (IntOp.subi (IntOp.divsi ArithUnit.vector (BitVec.ofNat 32 k.val) 64#32) 1#32)
      (IntOp.divsi ArithUnit.vector (BitVec.ofNat 32 k.val) 64#32)
    = BitVec.ofNat 32 (k.val / 64) := by
  revert k; decide +kernel

variable (W : FVec Ideal S448x64 .f32) (T : FVec Ideal S53x64 .f32)

/-- A row of the projected card table: the row times block 0 of the weights, less its mean. -/
theorem cardProj_apply (v : Fin 53) (j : Fin 64) : k0_pay5 (F := Ideal) W T (ix2 v j : S53x64.Idx)
    = sub_mean (fun k => ∑ d, T (ix2 v d) * W (ix2 (wrow 0 d) k)) j := by
  pointwise [k0_pay5, sub_mean, wrow]

variable (Ws : FVec Ideal S2x64 .f32) (Wb : FVec Ideal S9x64 .f32) (Wa : FVec Ideal S16x64 .f32)
  (H : FVec Ideal S9x64 .f32) (A : FVec Ideal S9x64 .f32) (N : FVec Ideal S10x64 .f32)

/-- The projected context table as the kernel writes it. -/
abbrev wctx : FVec Ideal S55x64 .f32 := k0_pay8 (F := Ideal) (k0_pay6 W Ws Wb Wa H A N) (k0_pay7 W Ws Wb Wa H A N)

/-- Rows 0 and 1 of the context table: the rows of `Ws` times block 4, less their means. -/
theorem wctx_s (p : Fin 2) (j : Fin 64) : wctx W Ws Wb Wa H A N (ix2 ⟨p.val, by omega⟩ j : S55x64.Idx)
    = sub_mean (fun k => ∑ d, Ws (ix2 p d) * W (ix2 (wrow 4 d) k)) j := by
  pointwise [k0_pay8, k0_pay6, k0_pay7, k0_pay2, sub_mean, wrow]

/-- Rows 2 to 10: the rows of `Wb` times block 5, less their means. -/
theorem wctx_b (p : Fin 9) (j : Fin 64) : wctx W Ws Wb Wa H A N (ix2 ⟨2 + p.val, by omega⟩ j : S55x64.Idx)
    = sub_mean (fun k => ∑ d, Wb (ix2 p d) * W (ix2 (wrow 5 d) k)) j := by
  have e (h : 2 + p.val - 2 < 9) : (⟨2 + p.val - 2, h⟩ : Fin 9) = p := Fin.ext (by show 2 + p.val - 2 = p.val; omega)
  pointwise [k0_pay8, k0_pay6, k0_pay7, k0_pay2, k0_pay3, k0_pay4, sub_mean, wrow]

/-- Rows 11 to 26: the rows of `Wa` times block 6, less their means. -/
theorem wctx_a (p : Fin 16) (j : Fin 64) : wctx W Ws Wb Wa H A N (ix2 ⟨11 + p.val, by omega⟩ j : S55x64.Idx)
    = sub_mean (fun k => ∑ d, Wa (ix2 p d) * W (ix2 (wrow 6 d) k)) j := by
  have e (h : 11 + p.val - 2 - 9 < 16) : (⟨11 + p.val - 2 - 9, h⟩ : Fin 16) = p := Fin.ext (by show 11 + p.val - 2 - 9 = p.val; omega)
  pointwise [k0_pay8, k0_pay6, k0_pay7, k0_pay2, k0_pay3, k0_pay4, sub_mean, wrow]
  simp only [show ¬ 11 + p.val < 2 by omega, show ¬ 11 + p.val - 2 < 9 by omega, show 11 + p.val - 2 - 9 < 16 by omega, e, ↓reduceDIte]

/-- Rows 27 to 35: the hero table times block 1, less the means. -/
theorem wctx_h (p : Fin 9) (j : Fin 64) : wctx W Ws Wb Wa H A N (ix2 ⟨27 + p.val, by omega⟩ j : S55x64.Idx)
    = sub_mean (fun k => ∑ d, H (ix2 p d) * W (ix2 (wrow 1 d) k)) j := by
  have e (h : 27 + p.val - 2 - 9 - 16 < 9) : (⟨27 + p.val - 2 - 9 - 16, h⟩ : Fin 9) = p := Fin.ext (by show 27 + p.val - 2 - 9 - 16 = p.val; omega)
  pointwise [k0_pay8, k0_pay6, k0_pay7, k0_pay2, k0_pay3, k0_pay4, sub_mean, wrow]
  simp only [show ¬ 27 + p.val < 2 by omega, show ¬ 27 + p.val - 2 < 9 by omega, show ¬ 27 + p.val - 2 - 9 < 16 by omega, show 27 + p.val - 2 - 9 - 16 < 9 by omega, e, ↓reduceDIte]

/-- Rows 36 to 44: the acting-position table times block 2, less the means. -/
theorem wctx_p (p : Fin 9) (j : Fin 64) : wctx W Ws Wb Wa H A N (ix2 ⟨36 + p.val, by omega⟩ j : S55x64.Idx)
    = sub_mean (fun k => ∑ d, A (ix2 p d) * W (ix2 (wrow 2 d) k)) j := by
  have e (h : 36 + p.val - 2 - 9 - 16 - 9 < 9) : (⟨36 + p.val - 2 - 9 - 16 - 9, h⟩ : Fin 9) = p := Fin.ext (by show 36 + p.val - 2 - 9 - 16 - 9 = p.val; omega)
  pointwise [k0_pay8, k0_pay6, k0_pay7, k0_pay2, k0_pay3, k0_pay4, sub_mean, wrow]
  simp only [show ¬ 36 + p.val < 2 by omega, show ¬ 36 + p.val - 2 < 9 by omega, show ¬ 36 + p.val - 2 - 9 < 16 by omega, show ¬ 36 + p.val - 2 - 9 - 16 < 9 by omega, show 36 + p.val - 2 - 9 - 16 - 9 < 9 by omega, e, ↓reduceDIte]

/-- Rows 45 to 54: the number-of-players table times block 3, less the means. -/
theorem wctx_n (p : Fin 10) (j : Fin 64) : wctx W Ws Wb Wa H A N (ix2 ⟨45 + p.val, by omega⟩ j : S55x64.Idx)
    = sub_mean (fun k => ∑ d, N (ix2 p d) * W (ix2 (wrow 3 d) k)) j := by
  have e (h : 45 + p.val - 2 - 9 - 16 - 9 - 9 < 10) : (⟨45 + p.val - 2 - 9 - 16 - 9 - 9, h⟩ : Fin 10) = p := Fin.ext (by show 45 + p.val - 2 - 9 - 16 - 9 - 9 = p.val; omega)
  pointwise [k0_pay8, k0_pay6, k0_pay7, k0_pay2, k0_pay3, k0_pay4, sub_mean, wrow]
  simp only [show ¬ 45 + p.val < 2 by omega, show ¬ 45 + p.val - 2 < 9 by omega, show ¬ 45 + p.val - 2 - 9 < 16 by omega, show ¬ 45 + p.val - 2 - 9 - 16 < 9 by omega, show ¬ 45 + p.val - 2 - 9 - 16 - 9 < 9 by omega, e, ↓reduceDIte]

variable (bs bb ba bc gm bt : FVec Ideal S1x64 .f32) (src : FVec Ideal S2x64 .f32)

/-- The bias row: the bias and the three projected bias rows, less the mean. -/
theorem bias_apply (j : Fin 64) :
    k0_pay9 (F := Ideal) (k0_pay2 W) (k0_pay3 W) (k0_pay4 W) bc bs bb ba (ix2 0 j : S1x64.Idx)
    = sub_mean (fun k => ((bc (ix2 0 k) + ∑ d, bs (ix2 0 d) * W (ix2 (wrow 4 d) k))
        + ∑ d, bb (ix2 0 d) * W (ix2 (wrow 5 d) k)) + ∑ d, ba (ix2 0 d) * W (ix2 (wrow 6 d) k)) j := by
  pointwise [k0_pay9, k0_pay2, k0_pay3, k0_pay4, sub_mean, wrow]

/-- A position given by its number is the position with that number. -/
theorem mk_eq {n a : ℕ} (h : a < n) (j : Fin n) (e : a = j.val) : (⟨a, h⟩ : Fin n) = j := Fin.ext e

/-- Lane `64 c + j` of the 448 lanes. -/
def lane (c : Fin 7) (j : Fin 64) : Fin 448 := ⟨c.val * 64 + j.val, by omega⟩

/-- The flattened shift: `beta` and the source row of the card's place. -/
theorem beta_apply (c : Fin 7) (j : Fin 64) :
    k0_pay13 (F := Ideal) (k0_pay10 bt) (k0_pay11 src) (k0_pay12 src) (ix2 0 (lane c j) : S1x448.Idx)
    = bt (ix2 0 j) + src (ix2 (if c.val < 5 then 0 else 1) j) := by
  pointwise [k0_pay13, k0_pay10, k0_pay11, k0_pay12, lane]
  have hj : j.val < 64 := j.isLt
  have hc : c.val < 7 := c.isLt
  have key (v : Fin 2) (n : ℕ) (hn : n < 64) (e : n = j.val) (he : v = if c.val < 5 then 0 else 1) :
      bt (ix2 0 ⟨n, hn⟩) + src (ix2 v ⟨n, hn⟩) = bt (ix2 0 j) + src (ix2 (if c.val < 5 then 0 else 1) j) := by
    rw [← he, mk_eq hn j e]
  by_cases h0 : c.val * 64 + j.val < 64
  · rw [dif_pos h0]; exact key 0 _ h0 (by omega) (if_pos (by omega)).symm
  rw [dif_neg h0]
  by_cases h1 : c.val * 64 + j.val - 64 < 64
  · rw [dif_pos h1]; exact key 0 _ h1 (by omega) (if_pos (by omega)).symm
  rw [dif_neg h1]
  by_cases h2 : c.val * 64 + j.val - 64 - 64 < 64
  · rw [dif_pos h2]; exact key 0 _ h2 (by omega) (if_pos (by omega)).symm
  rw [dif_neg h2]
  by_cases h3 : c.val * 64 + j.val - 64 - 64 - 64 < 64
  · rw [dif_pos h3]; exact key 0 _ h3 (by omega) (if_pos (by omega)).symm
  rw [dif_neg h3]
  by_cases h4 : c.val * 64 + j.val - 64 - 64 - 64 - 64 < 64
  · rw [dif_pos h4]; exact key 0 _ h4 (by omega) (if_pos (by omega)).symm
  rw [dif_neg h4]
  by_cases h5 : c.val * 64 + j.val - 64 - 64 - 64 - 64 - 64 < 64
  · rw [dif_pos h5]; exact key 1 _ h5 (by omega) (if_neg (by omega)).symm
  rw [dif_neg h5]
  exact key 1 _ (by omega) (by omega) (if_neg (by omega)).symm

set_option maxHeartbeats 1000000 in
/-- The spread scale: `gamma` on the lanes of the card's own block, zero elsewhere. -/
theorem gamma_apply (c' c : Fin 7) (j : Fin 64) :
    k0_pay14 (F := Ideal) gm gm gm gm gm gm gm (ix2 c' (lane c j) : S7x448.Idx)
    = if c'.val = c.val then gm (ix2 0 j) else 0 := by
  pointwise [k0_pay14, lane]
  have hj : j.val < 64 := j.isLt
  have hc : c.val < 7 := c.isLt
  obtain h' | h' | h' | h' | h' | h' | h' : c'.val = 0 ∨ c'.val = 1 ∨ c'.val = 2 ∨ c'.val = 3 ∨ c'.val = 4 ∨ c'.val = 5 ∨ c'.val = 6 := by
    omega
  all_goals
    by_cases h : c'.val = c.val
    · simp (disch := omega) only [dif_pos, dif_neg, if_pos h]
      refine congrArg gm (congrArg₂ ix2 (Subsingleton.elim _ _) (mk_eq _ j ?_))
      omega
    · simp (disch := omega) only [dif_pos, dif_neg, if_neg h]
      try (split_ifs <;> first | with_reducible rfl | omega)

/-- The block indicator: one where lane `k` lies in block `c`. -/
theorem blockDiag_apply (k : Fin 448) (c : Fin 7) :
    k0_pay1 (F := Ideal) (iota .tc S448x7 32 [0] iota_S448x7_d0_w32) 64#32 k0_pay15 (ix2 k c : S448x7.Idx)
    = if k.val / 64 = c.val then (1 : EReal) else 0 := by
  pointwise [k0_pay1, k0_pay15]
  rw [word_div64, indicator_word]
  have hk : k.val < 448 := k.isLt
  have hc : c.val < 7 := c.isLt
  refine if_congr ⟨fun h => ?_, fun h => by rw [h]⟩ rfl rfl
  have h' := congrArg BitVec.toNat h
  simp only [BitVec.toNat_ofNat] at h'
  omega

end Cert.KernelIdeal.Prep

end
-- ==== Proof.KPrep.lean ====
/- What the first launch leaves: its six arrays, over the argument arrays. -/
module

public import proofs.«01_k».proof.Proof.Gen.KernelIdeal.Frame
public import proofs.«01_k».proof.Proof.PrepPure
public import Idealize.ShloMosaic.Lib.Pipeline.ValueKit
public import Idealize.ShloMosaic.Lib.Claim

@[expose] public section

set_option maxRecDepth 16384

noncomputable section

namespace Cert.KernelIdeal.Prep

open Idealize.ShloMosaic Idealize.ShloMosaic.TcCoe Idealize.SL.Sem
open Cert.KernelIdeal Cert.KernelIdeal.Gen Cert.Row

section
variable (V : (c : Dev nD) → (b : Ref sig .tc) → Buf (Elt Ideal) ((c : Thread nD τ).loc b))

/-- The one point of the first launch's grid. -/
abbrev pt : Fin cfg0.N := ⟨0, by decide +kernel⟩

/-- Every window of the first launch is the whole array. -/
theorem idx0 : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] ∧ win0_18.index t = ![0, 0]
    ∧ win0_19.index t = ![0, 0] ∧ win0_20.index t = ![0, 0] :=
  (by decide +kernel : ∀ t : Fin grid0.N, _)

/-! Each input block is the array it is read from. -/

/-- The first launch's one point reads the card table whole. -/
theorem card_blk (c : Dev nD) (t : Fin cfg0.N) : iblk0 V c 0 t = V c main_arg8 := by blk_ext! [iblk0, idx0 t]
/-- The first launch's one point reads the source table whole. -/
theorem src_blk (c : Dev nD) (t : Fin cfg0.N) : iblk0 V c 1 t = V c main_arg9 := by blk_ext! [iblk0, idx0 t]
/-- The first launch's one point reads the hero table whole. -/
theorem hero_blk (c : Dev nD) (t : Fin cfg0.N) : iblk0 V c 2 t = V c main_arg10 := by blk_ext! [iblk0, idx0 t]
/-- The first launch's one point reads the acting table whole. -/
theorem acting_blk (c : Dev nD) (t : Fin cfg0.N) : iblk0 V c 3 t = V c main_arg11 := by blk_ext! [iblk0, idx0 t]
/-- The first launch's one point reads the player-count table whole. -/
theorem num_blk (c : Dev nD) (t : Fin cfg0.N) : iblk0 V c 4 t = V c main_arg12 := by blk_ext! [iblk0, idx0 t]
/-- The first launch's one point reads the scalar weights whole. -/
theorem ws_blk (c : Dev nD) (t : Fin cfg0.N) : iblk0 V c 5 t = V c main_arg13 := by blk_ext! [iblk0, idx0 t]
/-- The first launch's one point reads the scalar bias whole. -/
theorem bs_blk (c : Dev nD) (t : Fin cfg0.N) : iblk0 V c 6 t = V c main_v0 := by blk_ext! [iblk0, idx0 t]
/-- The first launch's one point reads the bet weights whole. -/
theorem wb_blk (c : Dev nD) (t : Fin cfg0.N) : iblk0 V c 7 t = V c main_arg15 := by blk_ext! [iblk0, idx0 t]
/-- The first launch's one point reads the bet bias whole. -/
theorem bb_blk (c : Dev nD) (t : Fin cfg0.N) : iblk0 V c 8 t = V c main_v1 := by blk_ext! [iblk0, idx0 t]
/-- The first launch's one point reads the action weights whole. -/
theorem wa_blk (c : Dev nD) (t : Fin cfg0.N) : iblk0 V c 9 t = V c main_arg17 := by blk_ext! [iblk0, idx0 t]
/-- The first launch's one point reads the action bias whole. -/
theorem ba_blk (c : Dev nD) (t : Fin cfg0.N) : iblk0 V c 10 t = V c main_v2 := by blk_ext! [iblk0, idx0 t]
/-- The first launch's one point reads the projection's weights whole. -/
theorem wc_blk (c : Dev nD) (t : Fin cfg0.N) : iblk0 V c 11 t = V c main_arg19 := by blk_ext! [iblk0, idx0 t]
/-- The first launch's one point reads the projection's bias whole. -/
theorem bc_blk (c : Dev nD) (t : Fin cfg0.N) : iblk0 V c 12 t = V c main_v3 := by blk_ext! [iblk0, idx0 t]
/-- The first launch's one point reads the scale whole. -/
theorem gamma_blk (c : Dev nD) (t : Fin cfg0.N) : iblk0 V c 13 t = V c main_v4 := by blk_ext! [iblk0, idx0 t]
/-- The first launch's one point reads the shift whole. -/
theorem beta_blk (c : Dev nD) (t : Fin cfg0.N) : iblk0 V c 14 t = V c main_v5 := by blk_ext! [iblk0, idx0 t]

/-- The projected card table. -/
theorem cardProj_arr (c : Dev nD) : (dat0 V c).arrAt 15 cfg0.N
    = k0_pay5 (F := Ideal) (V c main_arg19) (V c main_arg8) := by
  refine (dat0 V c).arrAt_eq_of_after_last 15 pt (by decide +kernel) _ fun j => ?_
  blk_simp
  rw [after0_15]
  frame_out
  rw [card_blk, wc_blk]

/-- The projected context table. -/
theorem wctx_arr (c : Dev nD) : (dat0 V c).arrAt 16 cfg0.N
    = wctx (V c main_arg19) (V c main_arg13) (V c main_arg15) (V c main_arg17) (V c main_arg10) (V c main_arg11) (V c main_arg12) := by
  refine (dat0 V c).arrAt_eq_of_after_last 16 pt (by decide +kernel) _ fun j => ?_
  blk_simp
  rw [after0_16]
  frame_out
  rw [wc_blk, ws_blk, wb_blk, wa_blk, hero_blk, acting_blk, num_blk]

/-- The bias row. -/
theorem bias_arr (c : Dev nD) : (dat0 V c).arrAt 17 cfg0.N
    = k0_pay9 (F := Ideal) (k0_pay2 (V c main_arg19)) (k0_pay3 (V c main_arg19)) (k0_pay4 (V c main_arg19)) (V c main_v3) (V c main_v0) (V c main_v1) (V c main_v2) := by
  refine (dat0 V c).arrAt_eq_of_after_last 17 pt (by decide +kernel) _ fun j => ?_
  blk_simp
  rw [after0_17]
  frame_out
  rw [wc_blk, bc_blk, bs_blk, bb_blk, ba_blk]

/-- The flattened shift. -/
theorem beta_arr (c : Dev nD) : (dat0 V c).arrAt 18 cfg0.N
    = k0_pay13 (F := Ideal) (k0_pay10 (V c main_v5)) (k0_pay11 (V c main_arg9)) (k0_pay12 (V c main_arg9)) := by
  refine (dat0 V c).arrAt_eq_of_after_last 18 pt (by decide +kernel) _ fun j => ?_
  blk_simp
  rw [after0_18]
  frame_out
  rw [beta_blk, src_blk]

/-- The spread scale. -/
theorem gamma_arr (c : Dev nD) : (dat0 V c).arrAt 19 cfg0.N
    = k0_pay14 (F := Ideal) (V c main_v4) (V c main_v4) (V c main_v4) (V c main_v4) (V c main_v4) (V c main_v4) (V c main_v4) := by
  refine (dat0 V c).arrAt_eq_of_after_last 19 pt (by decide +kernel) _ fun j => ?_
  blk_simp
  rw [after0_19]
  frame_out
  rw [gamma_blk]

/-- The block indicator. -/
theorem blockDiag_arr (c : Dev nD) : (dat0 V c).arrAt 20 cfg0.N
    = k0_pay1 (F := Ideal) (iota .tc S448x7 32 [0] iota_S448x7_d0_w32) 64#32 k0_pay15 := by
  refine (dat0 V c).arrAt_eq_of_after_last 20 pt (by decide +kernel) _ fun j => ?_
  blk_simp
  rw [after0_20]
  frame_out

end

end Cert.KernelIdeal.Prep

end
-- ==== Proof.KPack.lean ====
/- The packed array the second launch reads, column by column, over the argument arrays. -/
module

public import proofs.«01_k».proof.Proof.Gen.KernelIdeal.Frame
public import proofs.«01_k».proof.Proof.PrepPure
public import Idealize.ShloMosaic.Lib.Pipeline.ValueKit
public import Idealize.ShloMosaic.Lib.StableHlo.RunRead
public import Idealize.ShloMosaic.Lib.Claim
public import Idealize.ShloMosaic.Lib.Pointwise

@[expose] public section

set_option maxRecDepth 16384

noncomputable section

namespace Cert.KernelIdeal.Pack

open Idealize.ShloMosaic Idealize.ShloMosaic.TcCoe Idealize.SL.Sem Idealize.ShloMosaic.StableHlo
open Cert.KernelIdeal Cert.KernelIdeal.Gen Cert.Row
open scoped BigOperators

/-- Eight arrays side by side along the last axis, flattened to one row per token. -/
def packed (s : FVec Ideal S1024x50x2 .f32) (b : FVec Ideal S1024x50x9 .f32) (a : FVec Ideal S1024x50x16 .f32)
    (cd : FVec Ideal S1024x50x7 .f32) (h e n q : FVec Ideal S1024x50x1 .f32) : FVec Ideal S51200x38 .f32 :=
  shapeCast S51200x38 (concatenate S1024x50x38 2
    [⟨S1024x50x2, s⟩, ⟨S1024x50x9, b⟩, ⟨S1024x50x16, a⟩, ⟨S1024x50x7, cd⟩, ⟨S1024x50x1, h⟩, ⟨S1024x50x1, e⟩,
      ⟨S1024x50x1, n⟩, ⟨S1024x50x1, q⟩]
    concatenates_S1024x50x2_S1024x50x9_S1024x50x16_S1024x50x7_S1024x50x1_S1024x50x1_S1024x50x1_S1024x50x1_S1024x50x38_d2)
    shapeCasts_S1024x50x38_S51200x38

/-- One number per token as a column of width one. -/
def col (x : IVec S1024x50 32) : FVec Ideal S1024x50x1 .f32 :=
  broadcastInDim S1024x50x1 ![0, 1] bcast_S1024x50_S1024x50x1_0_1 (sitofp .f32 x : FVec Ideal S1024x50 .f32)

/-- One number per sequence, repeated over its tokens, as a column of width one. -/
def colSeq (x : IVec S1024 32) : FVec Ideal S1024x50x1 .f32 :=
  broadcastInDim S1024x50x1 ![0, 1, 2] bcast_S1024x1x1_S1024x50x1_0_1_2
    (shapeCast S1024x1x1 (sitofp .f32 x : FVec Ideal S1024 .f32) shapeCasts_S1024_S1024x1x1 : FVec Ideal S1024x1x1 .f32)

set_option maxHeartbeats 1000000 in
/-- The packed array after the host lines between the two launches. -/
theorem packed_read (σ : Valuation τ sig (Elt Ideal)) :
    (StableHlo.after hostOps1 σ (Proc.devRef .tc main_v18) : FVec Ideal S51200x38 .f32)
      = packed (σ (Proc.devRef .tc main_arg4)) (σ (Proc.devRef .tc main_arg5)) (σ (Proc.devRef .tc main_arg6))
          (sitofp .f32 (σ (Proc.devRef .tc main_arg0) : IVec S1024x50x7 32) : FVec Ideal S1024x50x7 .f32)
          (col (σ (Proc.devRef .tc main_arg1))) (col (σ (Proc.devRef .tc main_arg2)))
          (col (σ (Proc.devRef .tc main_arg3))) (colSeq (σ (Proc.devRef .tc main_arg7))) := by
  have h18 := after_last_write (ops := hostOps1 (F := Ideal)) (i := 11) [main_v19] (r := main_v18) rfl rfl (by decide) σ
  refine h18.trans ?_
  have h17 := upto_last_write (ops := hostOps1 (F := Ideal)) (n := 11) (i := 10) [] (r := main_v17) rfl rfl (by decide) σ
  have k4 : upto (hostOps1 (F := Ideal)) σ 10 (Proc.devRef .tc main_arg4) = σ (Proc.devRef .tc main_arg4) := by
    after_reads_simp
  have k5 : upto (hostOps1 (F := Ideal)) σ 10 (Proc.devRef .tc main_arg5) = σ (Proc.devRef .tc main_arg5) := by
    after_reads_simp
  have k6 : upto (hostOps1 (F := Ideal)) σ 10 (Proc.devRef .tc main_arg6) = σ (Proc.devRef .tc main_arg6) := by
    after_reads_simp
  have k10 : upto (hostOps1 (F := Ideal)) σ 10 (Proc.devRef .tc main_v10)
      = (sitofp .f32 (σ (Proc.devRef .tc main_arg0) : IVec S1024x50x7 32) : FVec Ideal S1024x50x7 .f32) := by
    after_reads_simp
  have k12 : upto (hostOps1 (F := Ideal)) σ 10 (Proc.devRef .tc main_v12) = col (σ (Proc.devRef .tc main_arg1)) := by
    after_reads_simp; rfl
  have k14 : upto (hostOps1 (F := Ideal)) σ 10 (Proc.devRef .tc main_v14) = col (σ (Proc.devRef .tc main_arg2)) := by
    after_reads_simp; rfl
  have k16 : upto (hostOps1 (F := Ideal)) σ 10 (Proc.devRef .tc main_v16) = col (σ (Proc.devRef .tc main_arg3)) := by
    after_reads_simp; rfl
  have k9 : upto (hostOps1 (F := Ideal)) σ 10 (Proc.devRef .tc main_v9) = colSeq (σ (Proc.devRef .tc main_arg7)) := by
    after_reads_simp; rfl
  rw [← k4, ← k5, ← k6, ← k10, ← k12, ← k14, ← k16, ← k9]
  refine (reshape_result' ..).trans ?_
  rw [h17]
  rw [nary_result']
  rfl

/-- The lengths as a column after the host lines between the two launches. -/
theorem lens_read (σ : Valuation τ sig (Elt Ideal)) (b : Fin 1024) :
    (StableHlo.after hostOps1 σ (Proc.devRef .tc main_v19) : IVec S1024x1 32) (ix2 b 0)
      = (σ (Proc.devRef .tc main_arg7) : IVec S1024 32) (ix1 b) := by
  after_reads_simp
  generalize (σ (Proc.devRef .tc main_arg7)) = x
  change shapeCast S1024x1 (x : IVec S1024 32) shapeCasts_S1024_S1024x1 (ix2 b 0) = x (ix1 b)
  pointwise

/-- The sequence of a flattened token. -/
def bOf (r : Fin 51200) : Fin 1024 := ⟨r.val / 50, by omega⟩

/-- The position of a flattened token in its sequence. -/
def tOf (r : Fin 51200) : Fin 50 := ⟨r.val % 50, by omega⟩

section
variable (s : FVec Ideal S1024x50x2 .f32) (b : FVec Ideal S1024x50x9 .f32) (a : FVec Ideal S1024x50x16 .f32)
    (cd : FVec Ideal S1024x50x7 .f32) (h e n q : FVec Ideal S1024x50x1 .f32) (r : Fin 51200)

/-- The packed array at a row and a column: the column's offset tells which of the eight arrays it lies in. -/
theorem packed_apply (k : Fin 38) : packed s b a cd h e n q (ix2 r k) =
    if h1 : k.val < 2 then s (ix3 (bOf r) (tOf r) ⟨k.val, h1⟩)
    else if h2 : k.val - 2 < 9 then b (ix3 (bOf r) (tOf r) ⟨k.val - 2, h2⟩)
    else if h3 : k.val - 2 - 9 < 16 then a (ix3 (bOf r) (tOf r) ⟨k.val - 2 - 9, h3⟩)
    else if h4 : k.val - 2 - 9 - 16 < 7 then cd (ix3 (bOf r) (tOf r) ⟨k.val - 2 - 9 - 16, h4⟩)
    else if h5 : k.val - 2 - 9 - 16 - 7 < 1 then h (ix3 (bOf r) (tOf r) ⟨k.val - 2 - 9 - 16 - 7, h5⟩)
    else if h6 : k.val - 2 - 9 - 16 - 7 - 1 < 1 then e (ix3 (bOf r) (tOf r) ⟨k.val - 2 - 9 - 16 - 7 - 1, h6⟩)
    else if h7 : k.val - 2 - 9 - 16 - 7 - 1 - 1 < 1 then n (ix3 (bOf r) (tOf r) ⟨k.val - 2 - 9 - 16 - 7 - 1 - 1, h7⟩)
    else q (ix3 (bOf r) (tOf r) ⟨k.val - 2 - 9 - 16 - 7 - 1 - 1 - 1, by omega⟩) := by
  pointwise [packed]
  rfl

/-- Columns 0 and 1 hold the scalar features. -/
theorem packed_s (d : Fin 2) : packed s b a cd h e n q (ix2 r ⟨d.val, by omega⟩) = s (ix3 (bOf r) (tOf r) d) := by
  rw [packed_apply]
  simp (disch := omega) only [dif_pos, dif_neg]

/-- Columns 2 to 10 hold the bet features. -/
theorem packed_b (d : Fin 9) : packed s b a cd h e n q (ix2 r ⟨2 + d.val, by omega⟩) = b (ix3 (bOf r) (tOf r) d) := by
  rw [packed_apply]
  simp (disch := omega) only [dif_pos, dif_neg]
  exact congrArg b (congrArg (ix3 _ _) (Fin.ext (by show 2 + d.val - 2 = d.val; omega)))

/-- Columns 11 to 26 hold the action features. -/
theorem packed_a (d : Fin 16) : packed s b a cd h e n q (ix2 r ⟨11 + d.val, by omega⟩) = a (ix3 (bOf r) (tOf r) d) := by
  rw [packed_apply]
  simp (disch := omega) only [dif_pos, dif_neg]
  exact congrArg a (congrArg (ix3 _ _) (Fin.ext (by show 11 + d.val - 2 - 9 = d.val; omega)))

/-- Columns 27 to 33 hold the cards. -/
theorem packed_cd (d : Fin 7) : packed s b a cd h e n q (ix2 r ⟨27 + d.val, by omega⟩) = cd (ix3 (bOf r) (tOf r) d) := by
  rw [packed_apply]
  simp (disch := omega) only [dif_pos, dif_neg]
  exact congrArg cd (congrArg (ix3 _ _) (Fin.ext (by show 27 + d.val - 2 - 9 - 16 = d.val; omega)))

/-- Column 34 holds the hero position. -/
theorem packed_h : packed s b a cd h e n q (ix2 r 34) = h (ix3 (bOf r) (tOf r) 0) := by
  pointwise [packed]
  rfl

/-- Column 35 holds the acting position. -/
theorem packed_e : packed s b a cd h e n q (ix2 r 35) = e (ix3 (bOf r) (tOf r) 0) := by
  pointwise [packed]
  rfl

/-- Column 36 holds the number of players. -/
theorem packed_n : packed s b a cd h e n q (ix2 r 36) = n (ix3 (bOf r) (tOf r) 0) := by
  pointwise [packed]
  rfl

/-- Column 37 holds the sequence's length. -/
theorem packed_q : packed s b a cd h e n q (ix2 r 37) = q (ix3 (bOf r) (tOf r) 0) := by
  pointwise [packed]
  rfl

end

/-- A column of words as numbers, at a token. -/
theorem col_apply (x : IVec S1024x50 32) (b : Fin 1024) (t : Fin 50) :
    col x (ix3 b t 0) = (((x (ix2 b t)).toInt : ℝ) : EReal) := by
  pointwise [col]
  rfl

/-- A sequence's number, at each of its tokens. -/
theorem colSeq_apply (x : IVec S1024 32) (b : Fin 1024) (t : Fin 50) :
    colSeq x (ix3 b t 0) = (((x (ix1 b)).toInt : ℝ) : EReal) := by
  pointwise [colSeq]
  rfl

end Cert.KernelIdeal.Pack

end
-- ==== Proof.Spec.lean ====
/- The arguments by name, what the precondition says of them, and the two results as formulas over them. -/
module

public import proofs.«01_k».proof.KernelIdeal
public import proofs.«01_k».proof.Proof.Lin
public import Idealize.ShloMosaic.Lib.ValueIdx

@[expose] public section

noncomputable section

namespace Cert.Spec

open Idealize.ShloMosaic
open Cert.KernelIdeal Cert.Row
open scoped BigOperators

/-- The arguments, named: per token the card, position and player-count indices and three feature rows, per sequence its
    length, and the tables and weights. -/
structure Args where
  card : IVec S1024x50x7 32
  hero : IVec S1024x50 32
  acting : IVec S1024x50 32
  num : IVec S1024x50 32
  sc : FVec Ideal S1024x50x2 .f32
  bt : FVec Ideal S1024x50x9 .f32
  ac : FVec Ideal S1024x50x16 .f32
  len : IVec S1024 32
  cardT : FVec Ideal S53x64 .f32
  srcT : FVec Ideal S2x64 .f32
  heroT : FVec Ideal S9x64 .f32
  actingT : FVec Ideal S9x64 .f32
  numT : FVec Ideal S10x64 .f32
  Ws : FVec Ideal S2x64 .f32
  bs : FVec Ideal S64 .f32
  Wb : FVec Ideal S9x64 .f32
  bb : FVec Ideal S64 .f32
  Wa : FVec Ideal S16x64 .f32
  ba : FVec Ideal S64 .f32
  Wc : FVec Ideal S448x64 .f32
  bc : FVec Ideal S64 .f32
  gamma : FVec Ideal S64 .f32
  beta : FVec Ideal S64 .f32

/-- The projection's weights in seven blocks of 64 lanes. -/
def Args.w (A : Args) (k : Fin 7) (d j : Fin 64) : EReal := A.Wc (ix2 ⟨k.val * 64 + d.val, by omega⟩ j)

/-- What the precondition gives: the index words as indices into their tables, the features and the
    last three blocks of the projection's weights, those that meet the features, as reals. -/
structure Tame (A : Args) where
  card : Fin 1024 → Fin 50 → Fin 7 → Fin 53
  card_eq : ∀ b t c, (A.card (ix3 b t c)).toInt = ((card b t c).val : ℤ)
  hero : Fin 1024 → Fin 50 → Fin 9
  hero_eq : ∀ b t, (A.hero (ix2 b t)).toInt = ((hero b t).val : ℤ)
  acting : Fin 1024 → Fin 50 → Fin 9
  acting_eq : ∀ b t, (A.acting (ix2 b t)).toInt = ((acting b t).val : ℤ)
  num : Fin 1024 → Fin 50 → Fin 10
  num_eq : ∀ b t, (A.num (ix2 b t)).toInt = ((num b t).val : ℤ)
  s : Fin 1024 → Fin 50 → Fin 2 → ℝ
  s_eq : ∀ b t p, A.sc (ix3 b t p) = ((s b t p : ℝ) : EReal)
  b : Fin 1024 → Fin 50 → Fin 9 → ℝ
  b_eq : ∀ b' t p, A.bt (ix3 b' t p) = ((b b' t p : ℝ) : EReal)
  a : Fin 1024 → Fin 50 → Fin 16 → ℝ
  a_eq : ∀ b t p, A.ac (ix3 b t p) = ((a b t p : ℝ) : EReal)
  w : Fin 3 → Fin 64 → Fin 64 → ℝ
  w_eq : ∀ (k : Fin 3) (d j : Fin 64), A.Wc (ix2 ⟨(k.val + 4) * 64 + d.val, by omega⟩ j) = ((w k d j : ℝ) : EReal)

variable {A : Args} (T : Tame A) (b : Fin 1024) (t : Fin 50) (c : Fin 7)

/-- The kernel's row for one card place of one token. -/
def rowOfK : Fin 64 → EReal :=
  rowK A.w (T.s b t) (T.b b t) (T.a b t) (fun d => A.cardT (ix2 (T.card b t c) d)) (fun d => A.heroT (ix2 (T.hero b t) d))
    (fun d => A.actingT (ix2 (T.acting b t) d)) (fun d => A.numT (ix2 (T.num b t) d)) (fun d => A.bs (ix1 d))
    (fun d => A.bb (ix1 d)) (fun d => A.ba (ix1 d)) (fun d => A.bc (ix1 d)) (fun p d => A.Ws (ix2 p d))
    (fun p d => A.Wb (ix2 p d)) (fun p d => A.Wa (ix2 p d))

/-- The reference's row for one card place of one token. -/
def rowOfR : Fin 64 → EReal :=
  rowR A.w (T.s b t) (T.b b t) (T.a b t) (fun d => A.cardT (ix2 (T.card b t c) d)) (fun d => A.heroT (ix2 (T.hero b t) d))
    (fun d => A.actingT (ix2 (T.acting b t) d)) (fun d => A.numT (ix2 (T.num b t) d)) (fun d => A.bs (ix1 d))
    (fun d => A.bb (ix1 d)) (fun d => A.ba (ix1 d)) (fun d => A.bc (ix1 d)) (fun p d => A.Ws (ix2 p d))
    (fun p d => A.Wb (ix2 p d)) (fun p d => A.Wa (ix2 p d))

/-- The first result: the kernel's normalised row, scaled, shifted by the source row of the card's place, and zero past
    the sequence's length. -/
def out (j : Fin 64) : EReal :=
  if (t.val : ℤ) < (A.len (ix1 b)).toInt
  then normK (rowOfK T b t c) j * A.gamma (ix1 j) + (A.beta (ix1 j) + A.srcT (ix2 (if c.val < 5 then 0 else 1) j))
  else 0

/-- The second result: one at a place of a token before the sequence's length, zero past it. -/
def mask (A : Args) (b : Fin 1024) (i : Fin 350) : EReal :=
  if ((i.val / 7 : ℕ) : ℤ) < (A.len (ix1 b)).toInt then (1 : EReal) else 0

/-- The first result as the reference computes it. -/
theorem out_eq (j : Fin 64) : out T b t c j
    = ((normR (sub_mean (rowOfR T b t c)) j * A.gamma (ix1 j) + A.beta (ix1 j))
        + A.srcT (ix2 (if c.val < 5 then 0 else 1) j))
      * (if (t.val : ℤ) < (A.len (ix1 b)).toInt then (1 : EReal) else 0) := by
  unfold out rowOfK rowOfR
  rw [normK_rowK (u := T.w) (h4 := funext fun d => funext fun j => T.w_eq 0 d j)
    (h5 := funext fun d => funext fun j => T.w_eq 1 d j) (h6 := funext fun d => funext fun j => T.w_eq 2 d j)]
  split
  · rw [mul_one, add_assoc]
  · rw [mul_zero]

end Cert.Spec

end
-- ==== Proof.KTables.lean ====
/- What the second launch finds in its tables and its packed array, over the kernel's arguments as launched. -/
module

public import proofs.«01_k».proof.Proof.KPrep
public import proofs.«01_k».proof.Proof.KPack
public import proofs.«01_k».proof.Proof.Spec

@[expose] public section

set_option maxRecDepth 16384

noncomputable section

namespace Cert.KernelIdeal.Final

open Idealize.ShloMosaic Idealize.ShloMosaic.TcCoe Idealize.SL.Sem Idealize.ShloMosaic.StableHlo
open Cert.KernelIdeal Cert.KernelIdeal.Gen Cert.KernelIdeal.Prep Cert.KernelIdeal.Pack Cert.Row Cert.Spec
open scoped BigOperators

variable (m : (ℓ : Loc nD τ sig) → Buf (Elt Ideal) ℓ) (ρ : Dev nD → PrngReg) (c : Dev nD)

/-- The kernel's argument arrays as launched, named. -/
def kArgs : Args where
  card := m ((c : Thread nD τ).loc main_arg0)
  hero := m ((c : Thread nD τ).loc main_arg1)
  acting := m ((c : Thread nD τ).loc main_arg2)
  num := m ((c : Thread nD τ).loc main_arg3)
  sc := m ((c : Thread nD τ).loc main_arg4)
  bt := m ((c : Thread nD τ).loc main_arg5)
  ac := m ((c : Thread nD τ).loc main_arg6)
  len := m ((c : Thread nD τ).loc main_arg7)
  cardT := m ((c : Thread nD τ).loc main_arg8)
  srcT := m ((c : Thread nD τ).loc main_arg9)
  heroT := m ((c : Thread nD τ).loc main_arg10)
  actingT := m ((c : Thread nD τ).loc main_arg11)
  numT := m ((c : Thread nD τ).loc main_arg12)
  Ws := m ((c : Thread nD τ).loc main_arg13)
  bs := m ((c : Thread nD τ).loc main_arg14)
  Wb := m ((c : Thread nD τ).loc main_arg15)
  bb := m ((c : Thread nD τ).loc main_arg16)
  Wa := m ((c : Thread nD τ).loc main_arg17)
  ba := m ((c : Thread nD τ).loc main_arg18)
  Wc := m ((c : Thread nD τ).loc main_arg19)
  bc := m ((c : Thread nD τ).loc main_arg20)
  gamma := m ((c : Thread nD τ).loc main_arg21)
  beta := m ((c : Thread nD τ).loc main_arg22)

/-- A vector read as a matrix of one row. -/
theorem row_read (x : FVec Ideal S64 .f32) (j : Fin 64) :
    (shapeCast S1x64 x shapeCasts_S64_S1x64 : FVec Ideal S1x64 .f32) (ix2 0 j) = x (ix1 j) := by
  pointwise

/-- The vectors as the first launch finds them: matrices of one row. -/
theorem vec_reads (j : Fin 64) :
    (V1 m ρ c main_v0 : FVec Ideal S1x64 .f32) (ix2 0 j) = (kArgs m c).bs (ix1 j)
    ∧ (V1 m ρ c main_v1 : FVec Ideal S1x64 .f32) (ix2 0 j) = (kArgs m c).bb (ix1 j)
    ∧ (V1 m ρ c main_v2 : FVec Ideal S1x64 .f32) (ix2 0 j) = (kArgs m c).ba (ix1 j)
    ∧ (V1 m ρ c main_v3 : FVec Ideal S1x64 .f32) (ix2 0 j) = (kArgs m c).bc (ix1 j)
    ∧ (V1 m ρ c main_v4 : FVec Ideal S1x64 .f32) (ix2 0 j) = (kArgs m c).gamma (ix1 j)
    ∧ (V1 m ρ c main_v5 : FVec Ideal S1x64 .f32) (ix2 0 j) = (kArgs m c).beta (ix1 j) := by
  refine ⟨?_, ?_, ?_, ?_, ?_, ?_⟩ <;> (after_reads_simp; exact row_read _ j)

/-- A table of the second launch is what the first launch leaves. -/
theorem V3_arr (w : Fin cfg0.W) (h : Pipeline.arrRef spec0 w ∉ hostOps1_W) :
    V3 m ρ c (Pipeline.arrRef spec0 w) = (dat0 (V1 m ρ) c).arrAt w cfg0.N :=
  (W3_of m ρ c _ h).trans (W2_arr m ρ c w)

/-- An argument as the first launch finds it. -/
theorem V1_arg (r : Ref sig .tc) (h : r ∈ argRefs) : V1 m ρ c r = m ((c : Thread nD τ).loc r) := W1_args m ρ c r h

variable {m c}

/-- Weighting by the projection's rows of block `k` is the projection with the weights of that block. -/
theorem proj_sum (A : Args) (k : Fin 7) (v : Fin 64 → EReal) (j : Fin 64) :
    ∑ d, v d * A.Wc (ix2 (wrow k d) j) = proj (A.w k) v j := rfl

/-- The projected card table. -/
theorem card_read (v : Fin 53) (j : Fin 64) : (V3 m ρ c main_v6_0 : FVec Ideal S53x64 .f32) (ix2 v j)
    = sub_mean (proj ((kArgs m c).w 0) fun d => (kArgs m c).cardT (ix2 v d)) j := by
  have h : V3 m ρ c main_v6_0 = k0_pay5 (F := Ideal) (kArgs m c).Wc (kArgs m c).cardT := by
    refine (V3_arr m ρ c 15 (by decide)).trans ((cardProj_arr (V1 m ρ) c).trans ?_)
    rw [V1_arg m ρ c main_arg19 (by decide), V1_arg m ρ c main_arg8 (by decide)]; rfl
  rw [h]
  refine (cardProj_apply _ _ v j).trans (congrArg (fun f => sub_mean f j) (funext fun k => proj_sum (kArgs m c) 0 _ k))

/-- The table of projected feature and position rows. -/
theorem wctx_read : V3 m ρ c main_v6_1 = wctx (kArgs m c).Wc (kArgs m c).Ws (kArgs m c).Wb (kArgs m c).Wa (kArgs m c).heroT
    (kArgs m c).actingT (kArgs m c).numT := by
  refine (V3_arr m ρ c 16 (by decide)).trans ((wctx_arr (V1 m ρ) c).trans ?_)
  rw [V1_arg m ρ c main_arg19 (by decide), V1_arg m ρ c main_arg13 (by decide), V1_arg m ρ c main_arg15 (by decide),
    V1_arg m ρ c main_arg17 (by decide), V1_arg m ρ c main_arg10 (by decide), V1_arg m ρ c main_arg11 (by decide),
    V1_arg m ρ c main_arg12 (by decide)]
  rfl

/-- The bias row. -/
theorem bias_read (j : Fin 64) : (V3 m ρ c main_v6_2 : FVec Ideal S1x64 .f32) (ix2 0 j)
    = sub_mean (fun k => (((kArgs m c).bc (ix1 k) + proj ((kArgs m c).w 4) (fun d => (kArgs m c).bs (ix1 d)) k)
        + proj ((kArgs m c).w 5) (fun d => (kArgs m c).bb (ix1 d)) k) + proj ((kArgs m c).w 6) (fun d => (kArgs m c).ba (ix1 d)) k) j := by
  have h := (V3_arr m ρ c 17 (by decide)).trans (bias_arr (V1 m ρ) c)
  rw [V1_arg m ρ c main_arg19 (by decide)] at h
  refine (congrFun h _).trans ((bias_apply _ _ _ _ _ j).trans (congrArg (fun f => sub_mean f j) (funext fun k => ?_)))
  simp only [(vec_reads m ρ c _).1, (vec_reads m ρ c _).2.1, (vec_reads m ρ c _).2.2.1, (vec_reads m ρ c _).2.2.2.1]
  exact congrArg₂ (· + ·) (congrArg₂ (· + ·) (congrArg (_ + ·) (proj_sum (kArgs m c) 4 _ k)) (proj_sum (kArgs m c) 5 _ k)) (proj_sum (kArgs m c) 6 _ k)

/-- The shift row: `beta` and the source row of the card's place. -/
theorem beta_read (d : Fin 7) (j : Fin 64) : (V3 m ρ c main_v6_3 : FVec Ideal S1x448 .f32) (ix2 0 (lane d j))
    = (kArgs m c).beta (ix1 j) + (kArgs m c).srcT (ix2 (if d.val < 5 then 0 else 1) j) := by
  have h := (V3_arr m ρ c 18 (by decide)).trans (beta_arr (V1 m ρ) c)
  rw [V1_arg m ρ c main_arg9 (by decide)] at h
  refine (congrFun h _).trans ((beta_apply _ _ d j).trans ?_)
  rw [(vec_reads m ρ c j).2.2.2.2.2]
  rfl

/-- The scale table: `gamma` in the place's own lanes. -/
theorem gamma_read (d' d : Fin 7) (j : Fin 64) : (V3 m ρ c main_v6_4 : FVec Ideal S7x448 .f32) (ix2 d' (lane d j))
    = if d'.val = d.val then (kArgs m c).gamma (ix1 j) else 0 := by
  have h := (V3_arr m ρ c 19 (by decide)).trans (gamma_arr (V1 m ρ) c)
  refine (congrFun h _).trans ((gamma_apply _ d' d j).trans ?_)
  rw [(vec_reads m ρ c j).2.2.2.2.1]

/-- The table that sums each place's lanes. -/
theorem blockDiag_read (k : Fin 448) (d : Fin 7) : (V3 m ρ c main_v6_5 : FVec Ideal S448x7 .f32) (ix2 k d)
    = if k.val / 64 = d.val then (1 : EReal) else 0 :=
  (congrFun ((V3_arr m ρ c 20 (by decide)).trans (blockDiag_arr (V1 m ρ) c)) _).trans (blockDiag_apply k d)

/-- The lengths. -/
theorem len_read (b : Fin 1024) : (V3 m ρ c main_v19 : IVec S1024x1 32) (ix2 b 0) = (kArgs m c).len (ix1 b) :=
  (lens_read (W2 m ρ c) b).trans (congrFun (W2_args m ρ c main_arg7 (by decide)) _)

variable (m c) in
/-- The packed array over the arguments. -/
def packedArgs : FVec Ideal S51200x38 .f32 :=
  packed (kArgs m c).sc (kArgs m c).bt (kArgs m c).ac (sitofp .f32 (kArgs m c).card : FVec Ideal S1024x50x7 .f32)
    (col (kArgs m c).hero) (col (kArgs m c).acting) (col (kArgs m c).num) (colSeq (kArgs m c).len)

/-- The packed array as the second launch finds it. -/
theorem packedArgs_read : V3 m ρ c main_v18 = packedArgs m c := by
  refine (packed_read (W2 m ρ c)).trans ?_
  rw [W2_args m ρ c main_arg0 (by decide), W2_args m ρ c main_arg1 (by decide), W2_args m ρ c main_arg2 (by decide),
    W2_args m ρ c main_arg3 (by decide), W2_args m ρ c main_arg4 (by decide), W2_args m ρ c main_arg5 (by decide),
    W2_args m ρ c main_arg6 (by decide), W2_args m ρ c main_arg7 (by decide)]
  rfl

end Cert.KernelIdeal.Final

end
-- ==== Proof.MainPure.lean ====
/- What one block of the second launch computes, read at an index. -/
module

public import proofs.«01_k».proof.Proof.Gen.KernelIdeal.Skeleton
public import proofs.«01_k».proof.Proof.PrepPure

@[expose] public section

set_option maxRecDepth 16384

noncomputable section

namespace Cert.KernelIdeal.Main

open Idealize.ShloMosaic Idealize.ShloMosaic.TcCoe Idealize.SL.Sem
open Cert.KernelIdeal Cert.KernelIdeal.Gen Cert.Row Cert.KernelIdeal.Prep
open scoped BigOperators

/-! ## Words as numbers -/

/-- A small number written as a word and read back signed is itself. -/
theorem toInt_small {n : ℕ} (h : n < 2 ^ 31) : (BitVec.ofNat 32 n).toInt = (n : ℤ) := by
  rw [BitVec.toInt_eq_toNat_cond, BitVec.toNat_ofNat, Nat.mod_eq_of_lt (by omega), if_pos (by omega)]

/-- A truth value widened to a word and made a float is one or zero. -/
theorem flag_word (b : Bool) : (FloatOps.sitofp FTy.f32 (BitVec.setWidth 32 (BitVec.ofBool b)) : Ideal .f32)
    = if b = true then (1 : EReal) else 0 := by
  cases b
  · show (((BitVec.setWidth 32 (BitVec.ofBool false)).toInt : ℝ) : EReal) = _
    simp
  · show (((BitVec.setWidth 32 (BitVec.ofBool true)).toInt : ℝ) : EReal) = _
    simp

/-- Two words made floats are equal exactly when they are equal as signed numbers. -/
theorem word_eq (a b : BitVec 32) : ((FloatOps.sitofp FTy.f32 a : Ideal .f32) = FloatOps.sitofp FTy.f32 b) ↔ a.toInt = b.toInt := by
  show (((a.toInt : ℝ) : EReal) = ((b.toInt : ℝ) : EReal)) ↔ _
  rw [EReal.coe_eq_coe_iff, Int.cast_inj]

/-- Two words made floats compare as the signed numbers do. -/
theorem word_lt (a b : BitVec 32) : ((FloatOps.sitofp FTy.f32 a : Ideal .f32) < FloatOps.sitofp FTy.f32 b) ↔ a.toInt < b.toInt := by
  show (((a.toInt : ℝ) : EReal) < ((b.toInt : ℝ) : EReal)) ↔ _
  rw [EReal.coe_lt_coe_iff, Int.cast_lt]

/-- The sum against an indicator of one row takes that row. -/
theorem hot_sum {N : ℕ} (hN : N < 2 ^ 31) (T : Fin N → EReal) (x : EReal) (w : BitVec 32) (i : Fin N)
    (hx : x = (FloatOps.sitofp FTy.f32 w : Ideal .f32)) (hi : w.toInt = (i.val : ℤ)) :
    ∑ k : Fin N, (FloatOps.sitofp FTy.f32 (BitVec.setWidth 32 (BitVec.ofBool
      (decide (x = (FloatOps.sitofp FTy.f32 (BitVec.ofNat 32 k.val) : Ideal .f32))))) : Ideal .f32) * T k = T i := by
  rw [Finset.sum_eq_single i]
  · rw [flag_word, if_pos, one_mul]
    rw [decide_eq_true_eq, hx, word_eq, hi, toInt_small (by omega)]
  · intro k _ hk
    rw [flag_word, if_neg, zero_mul]
    rw [decide_eq_true_eq, hx, word_eq, hi, toInt_small (by omega)]
    exact fun h => hk (Fin.ext (by omega))
  · exact fun h => absurd (Finset.mem_univ i) h

/-- The printed remainder of a row number by 50. -/
theorem word_mod50 (n : Fin 3200) : Scalar.select
      (IntOp.andi
        (IntOp.xori
          (IntOp.cmpi CmpIPredicate.slt
            (IntOp.remsi ArithUnit.vector (BitVec.ofNat 32 n.val)
              (Scalar.select (Scalar.cmpi CmpIPredicate.eq 50#32 0#32) 1#32 50#32)) 0#32)
          (Scalar.cmpi CmpIPredicate.slt (Scalar.select (Scalar.cmpi CmpIPredicate.eq 50#32 0#32) 1#32 50#32) 0#32))
        (IntOp.cmpi CmpIPredicate.ne
          (IntOp.remsi ArithUnit.vector (BitVec.ofNat 32 n.val)
            (Scalar.select (Scalar.cmpi CmpIPredicate.eq 50#32 0#32) 1#32 50#32)) 0#32))
      (IntOp.addi
        (IntOp.remsi ArithUnit.vector (BitVec.ofNat 32 n.val)
          (Scalar.select (Scalar.cmpi CmpIPredicate.eq 50#32 0#32) 1#32 50#32))
        (Scalar.select (Scalar.cmpi CmpIPredicate.eq 50#32 0#32) 1#32 50#32))
      (IntOp.remsi ArithUnit.vector (BitVec.ofNat 32 n.val)
        (Scalar.select (Scalar.cmpi CmpIPredicate.eq 50#32 0#32) 1#32 50#32))
    = BitVec.ofNat 32 (n.val % 50) := by
  revert n; decide +kernel

/-- The printed floor division of a position by 7. -/
theorem word_div7 (i : Fin 350) : Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi (Scalar.extui (Scalar.cmpi CmpIPredicate.sgt 7#32 0#32))
            (Scalar.extui (Scalar.cmpi CmpIPredicate.slt 7#32 0#32))))
        (IntOp.cmpi CmpIPredicate.ne (IntOp.remsi ArithUnit.vector (BitVec.ofNat 32 i.val) 7#32) 0#32))
      (IntOp.subi (IntOp.divsi ArithUnit.vector (BitVec.ofNat 32 i.val) 7#32) 1#32)
      (IntOp.divsi ArithUnit.vector (BitVec.ofNat 32 i.val) 7#32)
    = BitVec.ofNat 32 (i.val / 7) := by
  revert i; decide +kernel

/-! ## Sums over the joined axes -/

/-- A sum over the 55 columns is the sum over its six parts. -/
theorem sum55 (f : Fin 55 → EReal) : ∑ k, f k
    = (((((∑ p : Fin 2, f ⟨p.val, by omega⟩) + ∑ p : Fin 9, f ⟨2 + p.val, by omega⟩)
        + ∑ p : Fin 16, f ⟨11 + p.val, by omega⟩) + ∑ p : Fin 9, f ⟨27 + p.val, by omega⟩)
        + ∑ p : Fin 9, f ⟨36 + p.val, by omega⟩) + ∑ p : Fin 10, f ⟨45 + p.val, by omega⟩ := by
  rw [Fin.sum_univ_add (a := 45) (b := 10) f, Fin.sum_univ_add (a := 36) (b := 9) fun k => f (Fin.castAdd 10 k),
    Fin.sum_univ_add (a := 27) (b := 9) fun k => f (Fin.castAdd 10 (Fin.castAdd 9 k)),
    Fin.sum_univ_add (a := 11) (b := 16) fun k => f (Fin.castAdd 10 (Fin.castAdd 9 (Fin.castAdd 9 k))),
    Fin.sum_univ_add (a := 2) (b := 9) fun k => f (Fin.castAdd 10 (Fin.castAdd 9 (Fin.castAdd 9 (Fin.castAdd 16 k))))]
  rfl

/-- A sum over the 448 lanes is the sum over cards and their 64 lanes. -/
theorem sum448 (f : Fin 448 → EReal) : ∑ k, f k = ∑ c : Fin 7, ∑ j : Fin 64, f (lane c j) := by
  rw [← Fintype.sum_prod_type' fun (c : Fin 7) (j : Fin 64) => f (lane c j)]
  refine (Fintype.sum_equiv (finProdFinEquiv (m := 7) (n := 64)) _ _ fun p => congrArg f (Fin.ext ?_)).symm
  show p.1.val * 64 + p.2.val = p.2.val + 64 * p.1.val
  omega

variable (P : FVec Ideal S3200x38 .f32) (X : FVec Ideal S3200x64 .f32) (CP : FVec Ideal S53x64 .f32)

/-! ## The payloads at an index -/

/-- The row mask: one while the row's place in its hand is before the hand's length. -/
theorem mask_apply (n : Fin 3200) (L : BitVec 32) (hL : P (ix2 n 37) = (FloatOps.sitofp FTy.f32 L : Ideal .f32)) :
    k1_pay7 (F := Ideal) P k1_pay4 k1_pay5 k1_pay6 (ix2 n 0 : S3200x1.Idx)
      = if ((n.val % 50 : ℕ) : ℤ) < L.toInt then (1 : EReal) else 0 := by
  pointwise [k1_pay7, k1_pay4, k1_pay5, k1_pay6]
  rw [word_mod50, flag_word, hL]
  refine if_congr ?_ rfl rfl
  rw [decide_eq_true_eq, word_lt, toInt_small (by omega)]

/-- The second result: one while the position's place is before the hand's length. -/
theorem mask350_apply (L : Vec Ideal S64x1 .i32) (n : Fin 64) (i : Fin 350) :
    k1_pay1 (F := Ideal) (iota .tc S64x350 32 [1] iota_S64x350_d1_w32) 7#32 k1_pay17 k1_pay18 0#32 L (ix2 n i : S64x350.Idx)
      = if ((i.val / 7 : ℕ) : ℤ) < (L (ix2 n 0) : BitVec 32).toInt then (1 : EReal) else 0 := by
  pointwise [k1_pay1, k1_pay17, k1_pay18]
  rw [word_div7]
  refine (flag_word (BitVec.slt (BitVec.ofNat 32 (i.val / 7)) (L (ix2 n 0)))).trans (if_congr ?_ rfl rfl)
  rw [BitVec.slt_iff_toInt_lt, toInt_small (by omega)]

/-- The context row: the plain columns times their rows, the three picked rows, and the bias. -/
theorem ctx_apply (K : FVec Ideal S55x64 .f32) (B : FVec Ideal S1x64 .f32) (n : Fin 3200) (j : Fin 64)
    (wh wa wp : BitVec 32) (h a : Fin 9) (p : Fin 10)
    (eh : P (ix2 n 34) = (FloatOps.sitofp FTy.f32 wh : Ideal .f32)) (ih : wh.toInt = (h.val : ℤ))
    (ea : P (ix2 n 35) = (FloatOps.sitofp FTy.f32 wa : Ideal .f32)) (ia : wa.toInt = (a.val : ℤ))
    (ep : P (ix2 n 36) = (FloatOps.sitofp FTy.f32 wp : Ideal .f32)) (ip : wp.toInt = (p.val : ℤ)) :
    k1_pay3 (F := Ideal) P K B (ix2 n j : S3200x64.Idx)
      = ((((((∑ q : Fin 2, P (ix2 n ⟨q.val, by omega⟩) * K (ix2 ⟨q.val, by omega⟩ j))
          + ∑ q : Fin 9, P (ix2 n ⟨2 + q.val, by omega⟩) * K (ix2 ⟨2 + q.val, by omega⟩ j))
          + ∑ q : Fin 16, P (ix2 n ⟨11 + q.val, by omega⟩) * K (ix2 ⟨11 + q.val, by omega⟩ j))
          + K (ix2 ⟨27 + h.val, by omega⟩ j)) + K (ix2 ⟨36 + a.val, by omega⟩ j)) + K (ix2 ⟨45 + p.val, by omega⟩ j))
        + B (ix2 0 j) := by
  pointwise [k1_pay3, k1_pay2]
  rw [sum55]
  refine congrArg (· + B (ix2 0 j)) ?_
  refine congrArg₂ (· + ·) (congrArg₂ (· + ·) (congrArg₂ (· + ·) (congrArg₂ (· + ·) (congrArg₂ (· + ·) ?_ ?_) ?_) ?_) ?_) ?_
  · refine Finset.sum_congr rfl fun q _ => ?_
    dsimp only
    rw [dif_pos (by omega)]
  · refine Finset.sum_congr rfl fun q _ => ?_
    dsimp only
    rw [dif_pos (by omega)]
  · refine Finset.sum_congr rfl fun q _ => ?_
    dsimp only
    rw [dif_pos (by omega)]
  · refine Eq.trans (Finset.sum_congr rfl fun q _ => ?_)
      (hot_sum (by norm_num) (fun q : Fin 9 => K (ix2 ⟨27 + q.val, by omega⟩ j)) _ wh h eh ih)
    dsimp only
    rw [dif_neg (by omega), dif_pos (by omega), show 27 + q.val - 27 = q.val by omega]
  · refine Eq.trans (Finset.sum_congr rfl fun q _ => ?_)
      (hot_sum (by norm_num) (fun q : Fin 9 => K (ix2 ⟨36 + q.val, by omega⟩ j)) _ wa a ea ia)
    dsimp only
    rw [dif_neg (by omega), dif_neg (by omega), dif_pos (by omega), show 36 + q.val - 27 - 9 = q.val by omega]
  · refine Eq.trans (Finset.sum_congr rfl fun q _ => ?_)
      (hot_sum (by norm_num) (fun q : Fin 10 => K (ix2 ⟨45 + q.val, by omega⟩ j)) _ wp p ep ip)
    dsimp only
    rw [dif_neg (by omega), dif_neg (by omega), dif_neg (by omega), show 45 + q.val - 27 - 9 - 9 = q.val by omega]

/-- The block the second launch writes, over the whole blocks it reads. -/
abbrev outB (K : FVec Ideal S55x64 .f32) (B : FVec Ideal S1x64 .f32) (bd : FVec Ideal S448x7 .f32) (g7 : FVec Ideal S7x448 .f32)
    (bf : FVec Ideal S1x448 .f32) : FVec Ideal S3200x448 .f32 :=
  k1_pay16 (F := Ideal) (k1_pay2 P) (k1_pay3 P K B) (k1_pay7 (k1_pay2 P) k1_pay4 k1_pay5 k1_pay6) k1_pay8 (k1_pay9 CP)
    (k1_pay10 (k1_pay2 P) (k1_pay3 P K B) CP) (k1_pay11 (k1_pay2 P) (k1_pay3 P K B) CP) (k1_pay12 (k1_pay2 P) (k1_pay3 P K B) CP)
    (k1_pay13 (k1_pay2 P) (k1_pay3 P K B) CP) (k1_pay14 (k1_pay2 P) (k1_pay3 P K B) CP) (k1_pay15 (k1_pay2 P) (k1_pay3 P K B) CP)
    bd g7 bf

/-- What the second launch does to seven rows side by side is what `normK` does to each: the sums of squares come from a
    matrix that sums each row's lanes, the scale from a matrix that spreads it over the rows' lanes, and past the
    sequence's length the mask leaves zero. -/
theorem scaled {E : Fin 448 → EReal} {bd : Fin 448 → Fin 7 → EReal} {g7 : Fin 7 → Fin 448 → EReal} {m : EReal} {q : Prop} [Decidable q]
    (γ : Fin 64 → EReal) (β : EReal)
    (hm : m = if q then 1 else 0) (hbd : ∀ k c, bd k c = if k.val / 64 = c.val then 1 else 0)
    (hg : ∀ c' c j, g7 c' (lane c j) = if c'.val = c.val then γ j else 0) (c : Fin 7) (j : Fin 64) :
    E (lane c j) * ∑ x, (Ideal.rsqrt ((∑ k, E k * E k * bd k x) * Ideal.ofBits FTy.f32 0x3C800000#32
        + Ideal.ofBits FTy.f32 0x3727C5AC#32) * m) * g7 x (lane c j) + m * β
      = if q then normK (fun j => E (lane c j)) j * γ j + β else 0 := by
  have hsum : ∑ k, E k * E k * bd k c = ∑ j, E (lane c j) * E (lane c j) := by
    rw [sum448, Finset.sum_eq_single c]
    · refine Finset.sum_congr rfl fun i _ => ?_
      rw [hbd, if_pos (show (lane c i).val / 64 = c.val by show (c.val * 64 + i.val) / 64 = c.val; omega), mul_one]
    · intro d _ hd
      refine Finset.sum_eq_zero fun i _ => ?_
      rw [hbd, if_neg (fun h : (lane d i).val / 64 = c.val => hd (Fin.ext (by
        have h' : (d.val * 64 + i.val) / 64 = c.val := h
        omega))), mul_zero]
    · exact fun h => absurd (Finset.mem_univ c) h
  rw [Finset.sum_eq_single c]
  · rw [hg, if_pos rfl, hsum, hm]
    split_ifs
    · rw [mul_one, one_mul, ← mul_assoc, normK]
    · rw [mul_zero, zero_mul, zero_mul, mul_zero, add_zero]
  · intro d _ hd
    rw [hg, if_neg (fun h => hd (Fin.ext h)), mul_zero]
  · exact fun h => absurd (Finset.mem_univ c) h

set_option maxHeartbeats 1000000 in
/-- Seven blocks of 64 lanes side by side, read at lane `j` of block `c`. -/
theorem cat_apply (n : Fin 3200) (a0 a1 a2 a3 a4 a5 a6 : FVec Ideal S3200x64 .f32) (R : Fin 7 → Fin 64 → EReal)
    (h0 : ∀ j, a0 (ix2 n j) = R 0 j) (h1 : ∀ j, a1 (ix2 n j) = R 1 j) (h2 : ∀ j, a2 (ix2 n j) = R 2 j)
    (h3 : ∀ j, a3 (ix2 n j) = R 3 j) (h4 : ∀ j, a4 (ix2 n j) = R 4 j) (h5 : ∀ j, a5 (ix2 n j) = R 5 j)
    (h6 : ∀ j, a6 (ix2 n j) = R 6 j) (c : Fin 7) (j : Fin 64) :
    concatenate (α := Ideal .f32) S3200x448 1 [⟨S3200x64, a0⟩, ⟨S3200x64, a1⟩, ⟨S3200x64, a2⟩, ⟨S3200x64, a3⟩, ⟨S3200x64, a4⟩, ⟨S3200x64, a5⟩, ⟨S3200x64, a6⟩]
      concatenates_S3200x64_S3200x64_S3200x64_S3200x64_S3200x64_S3200x64_S3200x64_S3200x448_d1 (ix2 n (lane c j) : S3200x448.Idx) = R c j := by
  pointwise [lane]
  have hj : j.val < 64 := j.isLt
  by_cases e0 : c.val * 64 + j.val < 64
  · rw [dif_pos e0]
    obtain rfl : c = 0 := Fin.ext (show c.val = 0 by omega)
    exact (congrArg (fun k => a0 (ix2 n k)) (mk_eq _ j (by omega))).trans (h0 j)
  rw [dif_neg e0]
  by_cases e1 : c.val * 64 + j.val - 64 < 64
  · rw [dif_pos e1]
    obtain rfl : c = 1 := Fin.ext (show c.val = 1 by omega)
    exact (congrArg (fun k => a1 (ix2 n k)) (mk_eq _ j (by omega))).trans (h1 j)
  rw [dif_neg e1]
  by_cases e2 : c.val * 64 + j.val - 64 - 64 < 64
  · rw [dif_pos e2]
    obtain rfl : c = 2 := Fin.ext (show c.val = 2 by omega)
    exact (congrArg (fun k => a2 (ix2 n k)) (mk_eq _ j (by omega))).trans (h2 j)
  rw [dif_neg e2]
  by_cases e3 : c.val * 64 + j.val - 64 - 64 - 64 < 64
  · rw [dif_pos e3]
    obtain rfl : c = 3 := Fin.ext (show c.val = 3 by omega)
    exact (congrArg (fun k => a3 (ix2 n k)) (mk_eq _ j (by omega))).trans (h3 j)
  rw [dif_neg e3]
  by_cases e4 : c.val * 64 + j.val - 64 - 64 - 64 - 64 < 64
  · rw [dif_pos e4]
    obtain rfl : c = 4 := Fin.ext (show c.val = 4 by omega)
    exact (congrArg (fun k => a4 (ix2 n k)) (mk_eq _ j (by omega))).trans (h4 j)
  rw [dif_neg e4]
  by_cases e5 : c.val * 64 + j.val - 64 - 64 - 64 - 64 - 64 < 64
  · rw [dif_pos e5]
    obtain rfl : c = 5 := Fin.ext (show c.val = 5 by omega)
    exact (congrArg (fun k => a5 (ix2 n k)) (mk_eq _ j (by omega))).trans (h5 j)
  rw [dif_neg e5]
  obtain rfl : c = 6 := Fin.ext (show c.val = 6 by omega)
  exact (congrArg (fun k => a6 (ix2 n k)) (mk_eq _ j (by omega))).trans (h6 j)

variable (w : Fin 7 → BitVec 32) (i : Fin 7 → Fin 53)

/-- The block the second launch writes: each card's row is the picked row of the card table and the context row; it is
    divided by its norm, scaled and shifted, and zero where the mask is. -/
theorem out_apply (K : FVec Ideal S55x64 .f32) (B : FVec Ideal S1x64 .f32) (bd : FVec Ideal S448x7 .f32) (g7 : FVec Ideal S7x448 .f32)
    (bf : FVec Ideal S1x448 .f32) (n : Fin 3200)
    (ec : ∀ c : Fin 7, P (ix2 n ⟨27 + c.val, by omega⟩) = (FloatOps.sitofp FTy.f32 (w c) : Ideal .f32)) (ic : ∀ c, (w c).toInt = ((i c).val : ℤ))
    (γ : Fin 64 → EReal) (L : BitVec 32) (hL : P (ix2 n 37) = (FloatOps.sitofp FTy.f32 L : Ideal .f32))
    (hbd : ∀ k c, bd (ix2 k c) = if k.val / 64 = c.val then (1 : EReal) else 0)
    (hg : ∀ c' c j, g7 (ix2 c' (lane c j)) = if c'.val = c.val then γ j else 0) (c : Fin 7) (j : Fin 64) :
    outB P CP K B bd g7 bf (ix2 n (lane c j) : S3200x448.Idx)
      = if ((n.val % 50 : ℕ) : ℤ) < L.toInt
        then normK (fun j => CP (ix2 (i c) j) + k1_pay3 (F := Ideal) P K B (ix2 n j)) j * γ j + bf (ix2 0 (lane c j)) else 0 := by
  have hm := mask_apply P n L hL
  have hpick (c : Fin 7) (j : Fin 64) (x : EReal) (hx : x = P (ix2 n ⟨27 + c.val, by omega⟩)) :
      ∑ k : Fin 53, (FloatOps.sitofp FTy.f32 (BitVec.setWidth 32 (BitVec.ofBool
        (decide (x = (FloatOps.sitofp FTy.f32 (BitVec.ofNat 32 k.val) : Ideal .f32))))) : Ideal .f32) * CP (ix2 k j)
        + k1_pay3 (F := Ideal) P K B (ix2 n j) = CP (ix2 (i c) j) + k1_pay3 (F := Ideal) P K B (ix2 n j) :=
    congrArg (· + _) (hot_sum (by norm_num) (fun k => CP (ix2 k j)) x (w c) (i c) (hx.trans (ec c)) (ic c))
  have hP : k1_pay2 (F := Ideal) P = P := by
    funext x
    pointwise [k1_pay2]
  unfold outB
  rw [hP]
  generalize k1_pay3 (F := Ideal) P K B = X at hpick ⊢
  generalize k1_pay7 (F := Ideal) P k1_pay4 k1_pay5 k1_pay6 = m at hm ⊢
  unfold k1_pay16
  generalize hE : concatenate (α := Ideal .f32) S3200x448 1 _ _ = E
  have hE' (d : Fin 7) (j : Fin 64) : E (ix2 n (lane d j)) = CP (ix2 (i d) j) + X (ix2 n j) := by
    rw [← hE]
    refine cat_apply n _ _ _ _ _ _ _ (fun d j => CP (ix2 (i d) j) + X (ix2 n j)) ?_ ?_ ?_ ?_ ?_ ?_ ?_ d j <;> intro j
    · pointwise [k1_pay10, k1_pay8, k1_pay9]
      exact hpick 0 j _ rfl
    · pointwise [k1_pay11, k1_pay8, k1_pay9]
      exact hpick 1 j _ rfl
    · pointwise [k1_pay12, k1_pay8, k1_pay9]
      exact hpick 2 j _ rfl
    · pointwise [k1_pay13, k1_pay8, k1_pay9]
      exact hpick 3 j _ rfl
    · pointwise [k1_pay14, k1_pay8, k1_pay9]
      exact hpick 4 j _ rfl
    · pointwise [k1_pay15, k1_pay8, k1_pay9]
      exact hpick 5 j _ rfl
    · pointwise [k1_pay8, k1_pay9]
      exact hpick 6 j _ rfl
  clear hE hpick
  pointwise []
  simp only [Fin.sum_univ_one]
  refine (scaled (E := fun k => E (ix2 n k)) (bd := fun k c => bd (ix2 k c)) (g7 := fun c k => g7 (ix2 c k)) γ _ hm hbd hg c j).trans ?_
  simp only [hE']

end Cert.KernelIdeal.Main

end
-- ==== Proof.KMain.lean ====
/- What the second launch leaves: its two arrays at an index, over the arrays it reads. -/
module

public import proofs.«01_k».proof.Proof.Gen.KernelIdeal.Frame
public import proofs.«01_k».proof.Proof.MainPure
public import Idealize.ShloMosaic.Lib.Pipeline.ValueKit
public import Idealize.ShloMosaic.Lib.Claim

@[expose] public section

set_option maxRecDepth 16384

noncomputable section

namespace Cert.KernelIdeal.Main

open Idealize.ShloMosaic Idealize.ShloMosaic.TcCoe Idealize.SL.Sem
open Cert.KernelIdeal Cert.KernelIdeal.Gen Cert.Row Cert.KernelIdeal.Prep
open scoped BigOperators

variable (V : (c : Dev nD) → (b : Ref sig .tc) → Buf (Elt Ideal) ((c : Thread nD τ).loc b))

/-- The second launch's windows: blocks of rows for the packed array, the lengths and the two results, the tables whole. -/
theorem idx1 : ∀ t : Fin cfg1.N, win1_0.index t = ![t.val, 0] ∧ win1_1.index t = ![t.val, 0] ∧ win1_2.index t = ![0, 0]
    ∧ win1_3.index t = ![0, 0] ∧ win1_4.index t = ![0, 0] ∧ win1_5.index t = ![0, 0] ∧ win1_6.index t = ![0, 0]
    ∧ win1_7.index t = ![0, 0] ∧ win1_8.index t = ![t.val, 0] ∧ win1_9.index t = ![t.val, 0] :=
  (by decide +kernel : ∀ t : Fin grid1.N, _)

/-! Each table's block is the table. -/

/-- Every point of the second launch reads the projected card table whole. -/
theorem card_blk (c : Dev nD) (t : Fin cfg1.N) : iblk1 V c 2 t = V c main_v6_0 := by blk_ext! [iblk1, idx1 t]
/-- Every point reads the table of the other projected rows whole. -/
theorem ctx_blk (c : Dev nD) (t : Fin cfg1.N) : iblk1 V c 3 t = V c main_v6_1 := by blk_ext! [iblk1, idx1 t]
/-- Every point reads the row of summed biases whole. -/
theorem bias_blk (c : Dev nD) (t : Fin cfg1.N) : iblk1 V c 4 t = V c main_v6_2 := by blk_ext! [iblk1, idx1 t]
/-- Every point reads the flattened shift whole. -/
theorem beta_blk (c : Dev nD) (t : Fin cfg1.N) : iblk1 V c 5 t = V c main_v6_3 := by blk_ext! [iblk1, idx1 t]
/-- Every point reads the spread scale whole. -/
theorem gamma_blk (c : Dev nD) (t : Fin cfg1.N) : iblk1 V c 6 t = V c main_v6_4 := by blk_ext! [iblk1, idx1 t]
/-- Every point reads the matrix that sums a card place's lanes whole. -/
theorem bd_blk (c : Dev nD) (t : Fin cfg1.N) : iblk1 V c 7 t = V c main_v6_5 := by blk_ext! [iblk1, idx1 t]

/-- The second launch has sixteen points. -/
theorem points (t : Fin cfg1.N) : t.val < 16 := t.isLt

/-- Row `n` of block `t` among the 51200 rows. -/
def brow (t : Fin cfg1.N) (n : Fin 3200) : Fin 51200 := ⟨t.val * 3200 + n.val, by have := points t; omega⟩

/-- Row `n` of length block `t` among the 1024 rows. -/
def lrow (t : Fin cfg1.N) (n : Fin 64) : Fin 1024 := ⟨t.val * 64 + n.val, by have := points t; omega⟩

/-- Point `t` reads rows `3200 t` onwards of the packed array. -/
theorem packed_blk (c : Dev nD) (t : Fin cfg1.N) (n : Fin 3200) (k : Fin 38) :
    iblk1 V c 0 t (ix2 n k) = V c main_v18 (ix2 (brow t n) k) := by
  blk_ext [iblk1, idx1 t, brow]

/-- Point `t` reads rows `64 t` onwards of the lengths. -/
theorem len_blk (c : Dev nD) (t : Fin cfg1.N) (n : Fin 64) :
    iblk1 V c 1 t (ix2 n 0) = V c main_v19 (ix2 (lrow t n) 0) := by
  blk_ext [iblk1, idx1 t, lrow]

/-- Where the blocks of the two results lie in their arrays. -/
theorem emb9 (t : Fin cfg1.N) (n : Fin 64) (i : Fin 350) :
    (((cfg1.win 9).blk t).view.emb (ix2 n i : S64x350.Idx) : S1024x350.Idx) = ix2 (lrow t n) i := by
  blk_ext [idx1 t, lrow]

/-- Row `n` of the block that point `t` writes is row `3200 t + n` of the first result, before its last reshape. -/
theorem emb8 (t : Fin cfg1.N) (n : Fin 3200) (l : Fin 448) :
    (((cfg1.win 8).blk t).view.emb (ix2 n l : S3200x448.Idx) : S51200x448.Idx) = ix2 (brow t n) l := by
  blk_ext [idx1 t, brow]

/-- The second result over the lengths: one while the position's place is before the hand's length. -/
def maskG (L : Vec Ideal S1024x1 .i32) : FVec Ideal S1024x350 .f32 := fun y =>
  if (((y 1).val / 7 : ℕ) : ℤ) < (L (ix2 (y 0) 0) : BitVec 32).toInt then (1 : EReal) else 0

/-- The second result's array. -/
theorem mask_arr (c : Dev nD) : (dat1 V c).arrAt 9 cfg1.N = maskG (V c main_v19) := by
  refine (dat1 V c).arrAt_eq_of_covers 9 (maskG (V c main_v19)) (by decide +kernel) fun t hf y => ?_
  blk_simp
  rw [after1_9]
  frame_out
  obtain ⟨n, i, rfl⟩ : ∃ (n : Fin 64) (i : Fin 350), y = (ix2 n i : S64x350.Idx) := ⟨y 0, y 1, by idx_ext⟩
  refine ((mask350_apply _ n i).trans ?_).trans (congrArg (maskG (V c main_v19)) (emb9 t n i)).symm
  rw [len_blk]
  rfl

/-- The context row the second launch computes from a packed row. -/
def ctxRow (PK : FVec Ideal S51200x38 .f32) (K : FVec Ideal S55x64 .f32) (B : FVec Ideal S1x64 .f32) (h a : Fin 9) (p : Fin 10)
    (r : Fin 51200) (j : Fin 64) : EReal :=
  ((((((∑ q : Fin 2, PK (ix2 r ⟨q.val, by omega⟩) * K (ix2 ⟨q.val, by omega⟩ j))
          + ∑ q : Fin 9, PK (ix2 r ⟨2 + q.val, by omega⟩) * K (ix2 ⟨2 + q.val, by omega⟩ j))
          + ∑ q : Fin 16, PK (ix2 r ⟨11 + q.val, by omega⟩) * K (ix2 ⟨11 + q.val, by omega⟩ j))
          + K (ix2 ⟨27 + h.val, by omega⟩ j)) + K (ix2 ⟨36 + a.val, by omega⟩ j)) + K (ix2 ⟨45 + p.val, by omega⟩ j))
        + B (ix2 0 j)

/-- The first result at row `r`, card `c`, lane `j`. -/
def outVal (CP : FVec Ideal S53x64 .f32) (X : Fin 51200 → Fin 64 → EReal) (i : Fin 51200 → Fin 7 → Fin 53) (L : Fin 51200 → BitVec 32)
    (γ : Fin 64 → EReal) (bf : FVec Ideal S1x448 .f32) (r : Fin 51200) (c : Fin 7) (j : Fin 64) : EReal :=
  if ((r.val % 50 : ℕ) : ℤ) < (L r).toInt
  then normK (fun j => CP (ix2 (i r c) j) + X r j) j * γ j + bf (ix2 0 (lane c j)) else 0

/-- The first result's array, by rows and lanes. -/
def outG (CP : FVec Ideal S53x64 .f32) (X : Fin 51200 → Fin 64 → EReal) (i : Fin 51200 → Fin 7 → Fin 53) (L : Fin 51200 → BitVec 32)
    (γ : Fin 64 → EReal) (bf : FVec Ideal S1x448 .f32) : FVec Ideal S51200x448 .f32 := fun y =>
  outVal CP X i L γ bf (y 0) ⟨(y 1).val / 64, by have : (y 1).val < 448 := (y 1).isLt; omega⟩ ⟨(y 1).val % 64, by omega⟩

/-- The first result's array at a lane of a card place. -/
theorem outG_lane (CP : FVec Ideal S53x64 .f32) (X : Fin 51200 → Fin 64 → EReal) (i : Fin 51200 → Fin 7 → Fin 53) (L : Fin 51200 → BitVec 32)
    (γ : Fin 64 → EReal) (bf : FVec Ideal S1x448 .f32) (r : Fin 51200) (d : Fin 7) (j : Fin 64) :
    outG CP X i L γ bf (ix2 r (lane d j)) = outVal CP X i L γ bf r d j :=
  congrArg₂ (outVal CP X i L γ bf r) (Fin.ext (show (d.val * 64 + j.val) / 64 = d.val by omega))
    (Fin.ext (show (d.val * 64 + j.val) % 64 = j.val by omega))

variable (PK : FVec Ideal S51200x38 .f32) (wc : Fin 51200 → Fin 7 → BitVec 32) (ic : Fin 51200 → Fin 7 → Fin 53)
  (wh wa wp L : Fin 51200 → BitVec 32) (ih ia : Fin 51200 → Fin 9) (ip : Fin 51200 → Fin 10) (γ : Fin 64 → EReal)

/-- The first result's array: packed columns that are index words in range, and the tables the first launch leaves. -/
theorem out_arr (c : Dev nD) (hPK : V c main_v18 = PK)
    (ec : ∀ r (d : Fin 7), PK (ix2 r ⟨27 + d.val, by omega⟩) = (FloatOps.sitofp FTy.f32 (wc r d) : Ideal .f32))
    (hc : ∀ r d, (wc r d).toInt = ((ic r d).val : ℤ))
    (eh : ∀ r, PK (ix2 r 34) = (FloatOps.sitofp FTy.f32 (wh r) : Ideal .f32)) (hh : ∀ r, (wh r).toInt = ((ih r).val : ℤ))
    (ea : ∀ r, PK (ix2 r 35) = (FloatOps.sitofp FTy.f32 (wa r) : Ideal .f32)) (ha : ∀ r, (wa r).toInt = ((ia r).val : ℤ))
    (ep : ∀ r, PK (ix2 r 36) = (FloatOps.sitofp FTy.f32 (wp r) : Ideal .f32)) (hp : ∀ r, (wp r).toInt = ((ip r).val : ℤ))
    (eL : ∀ r, PK (ix2 r 37) = (FloatOps.sitofp FTy.f32 (L r) : Ideal .f32))
    (hbd : ∀ k d, (V c main_v6_5 : FVec Ideal S448x7 .f32) (ix2 k d) = if k.val / 64 = d.val then (1 : EReal) else 0)
    (hg : ∀ d' d j, (V c main_v6_4 : FVec Ideal S7x448 .f32) (ix2 d' (lane d j)) = if d'.val = d.val then γ j else 0) :
    (dat1 V c).arrAt 8 cfg1.N = outG (V c main_v6_0)
      (fun r j => ctxRow PK (V c main_v6_1) (V c main_v6_2) (ih r) (ia r) (ip r) r j) ic L γ (V c main_v6_3) := by
  refine (dat1 V c).arrAt_eq_of_covers 8 (outG (V c main_v6_0)
      (fun r j => ctxRow PK (V c main_v6_1) (V c main_v6_2) (ih r) (ia r) (ip r) r j) ic L γ (V c main_v6_3)) (by decide +kernel) fun t hf y => ?_
  blk_simp
  rw [after1_8]
  unfold_out out1_8
  frame_out
  rw [card_blk, ctx_blk, bias_blk, beta_blk, gamma_blk, bd_blk]
  obtain ⟨n, l, rfl⟩ : ∃ (n : Fin 3200) (l : Fin 448), y = (ix2 n l : S3200x448.Idx) := ⟨y 0, y 1, by idx_ext⟩
  obtain ⟨d, j, rfl⟩ : ∃ (d : Fin 7) (j : Fin 64), l = lane d j :=
    ⟨⟨l.val / 64, by omega⟩, ⟨l.val % 64, by omega⟩, Fin.ext (by show l.val = l.val / 64 * 64 + l.val % 64; omega)⟩
  subst hPK
  have hrow (k : Fin 38) := packed_blk V c t n k
  have h50 : (brow t n).val % 50 = n.val % 50 := by show (t.val * 3200 + n.val) % 50 = n.val % 50; omega
  refine ((out_apply (iblk1 V c 0 t) (V c main_v6_0) (wc (brow t n)) (ic (brow t n)) (V c main_v6_1) (V c main_v6_2) (V c main_v6_5)
    (V c main_v6_4) (V c main_v6_3) n (fun e => (hrow _).trans (ec _ e)) (hc _) γ (L (brow t n)) ((hrow _).trans (eL _)) hbd hg d j).trans ?_).trans
      ((congrArg (outG _ _ ic L γ _) (emb8 t n (lane d j))).trans (outG_lane _ _ ic L γ _ _ d j)).symm
  have hX (j : Fin 64) := ctx_apply (iblk1 V c 0 t) (V c main_v6_1) (V c main_v6_2) n j (wh (brow t n)) (wa (brow t n)) (wp (brow t n))
    (ih (brow t n)) (ia (brow t n)) (ip (brow t n)) ((hrow _).trans (eh _)) (hh _) ((hrow _).trans (ea _)) (ha _) ((hrow _).trans (ep _)) (hp _)
  simp only [hrow] at hX
  simp only [hX]
  unfold outVal
  rw [h50]
  rfl

end Cert.KernelIdeal.Main

end
-- ==== Proof.KFinal.lean ====
/- The kernel's two results, index by index, over its arguments as launched. -/
module

public import proofs.«01_k».proof.Proof.KTables
public import proofs.«01_k».proof.Proof.KMain

@[expose] public section

set_option maxRecDepth 16384

noncomputable section

namespace Cert.KernelIdeal.Final

open Idealize.ShloMosaic Idealize.ShloMosaic.TcCoe Idealize.SL.Sem Idealize.ShloMosaic.StableHlo
open Cert.KernelIdeal Cert.KernelIdeal.Gen Cert.KernelIdeal.Prep Cert.KernelIdeal.Pack Cert.KernelIdeal.Main Cert.Row Cert.Spec
open scoped BigOperators

variable {m : (ℓ : Loc nD τ sig) → Buf (Elt Ideal) ℓ} (ρ : Dev nD → PrngReg) {c : Dev nD}

/-- The second result. -/
theorem mask_read (b : Fin 1024) (i : Fin 350) :
    (W5 m ρ c (Proc.devRef .tc main_v20_1) : FVec Ideal S1024x350 .f32) (ix2 b i) = mask (kArgs m c) b i := by
  have h := (W5_of m ρ c main_v20_1 (by decide)).trans ((W4_arr m ρ c 9).trans (mask_arr (V3 m ρ) c))
  refine (congrFun h _).trans ?_
  show (if ((i.val / 7 : ℕ) : ℤ) < (BitVec.toInt ((V3 m ρ c main_v19 : IVec S1024x1 32) (ix2 b 0))) then (1 : EReal) else 0) = _
  rw [len_read]
  rfl

variable (T : Tame (kArgs m c))

/-- The part of a row that does not depend on the card. -/
theorem ctx_read (r : Fin 51200) (j : Fin 64) :
    ctxRow (packedArgs m c) (V3 m ρ c main_v6_1) (V3 m ρ c main_v6_2) (T.hero (bOf r) (tOf r)) (T.acting (bOf r) (tOf r))
      (T.num (bOf r) (tOf r)) r j
    = ((((((∑ p, (T.s (bOf r) (tOf r) p : EReal) * sub_mean (proj ((kArgs m c).w 4) fun d => (kArgs m c).Ws (ix2 p d)) j)
        + ∑ p, (T.b (bOf r) (tOf r) p : EReal) * sub_mean (proj ((kArgs m c).w 5) fun d => (kArgs m c).Wb (ix2 p d)) j)
        + ∑ p, (T.a (bOf r) (tOf r) p : EReal) * sub_mean (proj ((kArgs m c).w 6) fun d => (kArgs m c).Wa (ix2 p d)) j)
        + sub_mean (proj ((kArgs m c).w 1) fun d => (kArgs m c).heroT (ix2 (T.hero (bOf r) (tOf r)) d)) j)
        + sub_mean (proj ((kArgs m c).w 2) fun d => (kArgs m c).actingT (ix2 (T.acting (bOf r) (tOf r)) d)) j)
        + sub_mean (proj ((kArgs m c).w 3) fun d => (kArgs m c).numT (ix2 (T.num (bOf r) (tOf r)) d)) j)
      + sub_mean (fun k => (((kArgs m c).bc (ix1 k) + proj ((kArgs m c).w 4) (fun d => (kArgs m c).bs (ix1 d)) k)
        + proj ((kArgs m c).w 5) (fun d => (kArgs m c).bb (ix1 d)) k) + proj ((kArgs m c).w 6) (fun d => (kArgs m c).ba (ix1 d)) k) j := by
  unfold ctxRow packedArgs
  rw [wctx_read ρ, bias_read ρ]
  simp only [packed_s, packed_b, packed_a, T.s_eq, T.b_eq, T.a_eq, wctx_s, wctx_b, wctx_a, wctx_h, wctx_p, wctx_n, proj_sum (kArgs m c)]

/-- The first result's array, at a row and a card place. -/
theorem rows_read (r : Fin 51200) (d : Fin 7) (j : Fin 64) :
    (W4 m ρ c (Proc.devRef .tc main_v20_0) : FVec Ideal S51200x448 .f32) (ix2 r (lane d j)) = out T (bOf r) (tOf r) d j := by
  have h := (W4_arr m ρ c 8).trans (out_arr (V3 m ρ) (packedArgs m c)
    (fun r d => (kArgs m c).card (ix3 (bOf r) (tOf r) d)) (fun r d => T.card (bOf r) (tOf r) d)
    (fun r => (kArgs m c).hero (ix2 (bOf r) (tOf r))) (fun r => (kArgs m c).acting (ix2 (bOf r) (tOf r)))
    (fun r => (kArgs m c).num (ix2 (bOf r) (tOf r))) (fun r => (kArgs m c).len (ix1 (bOf r)))
    (fun r => T.hero (bOf r) (tOf r)) (fun r => T.acting (bOf r) (tOf r)) (fun r => T.num (bOf r) (tOf r))
    (fun j => (kArgs m c).gamma (ix1 j)) c (packedArgs_read ρ)
    (fun r d => packed_cd _ _ _ _ _ _ _ _ r d) (fun r d => T.card_eq _ _ _)
    (fun r => (packed_h _ _ _ _ _ _ _ _ r).trans (col_apply _ _ _)) (fun r => T.hero_eq _ _)
    (fun r => (packed_e _ _ _ _ _ _ _ _ r).trans (col_apply _ _ _)) (fun r => T.acting_eq _ _)
    (fun r => (packed_n _ _ _ _ _ _ _ _ r).trans (col_apply _ _ _)) (fun r => T.num_eq _ _)
    (fun r => (packed_q _ _ _ _ _ _ _ _ r).trans (colSeq_apply _ _ _))
    (fun k d => blockDiag_read ρ k d) (fun d' d j => gamma_read ρ d' d j))
  refine (congrFun h _).trans ((outG_lane _ _ _ _ _ _ r d j).trans ?_)
  unfold outVal out rowOfK
  rw [beta_read ρ d j]
  simp only [ctx_read ρ T, card_read ρ]
  rfl

/-- The first result. -/
theorem out_read (b : Fin 1024) (i : Fin 350) (j : Fin 64) :
    (W5 m ρ c (Proc.devRef .tc main_v21) : FVec Ideal S1024x350x64 .f32) (ix3 b i j)
      = out T b ⟨i.val / 7, by omega⟩ ⟨i.val % 7, by omega⟩ j := by
  have h : W5 m ρ c (Proc.devRef .tc main_v21) = (shapeCast S1024x350x64
      (W4 m ρ c (Proc.devRef .tc main_v20_0) : FVec Ideal S51200x448 .f32) shapeCasts_S51200x448_S1024x350x64 : FVec Ideal S1024x350x64 .f32) := by
    after_reads_simp
    rfl
  refine (congrFun h _).trans ?_
  generalize hx : (W4 m ρ c (Proc.devRef .tc main_v20_0) : FVec Ideal S51200x448 .f32) = x
  have e : (shapeCast S1024x350x64 x shapeCasts_S51200x448_S1024x350x64 : FVec Ideal S1024x350x64 .f32) (ix3 b i j)
      = x (ix2 ⟨b.val * 50 + i.val / 7, by omega⟩ (lane ⟨i.val % 7, by omega⟩ j)) := by
    pointwise [lane]
  rw [e, ← hx, rows_read ρ T]
  congr 1
  · exact Fin.ext (by show (b.val * 50 + i.val / 7) / 50 = b.val; omega)
  · exact Fin.ext (by show (b.val * 50 + i.val / 7) % 50 = i.val / 7; omega)

end Cert.KernelIdeal.Final

end
-- ==== Proof.RefTake.lean ====
/- Table rows taken by index, as the reference takes them: an index in range takes its row. -/
module

public import proofs.«01_k».proof.Proof.Gen.ReferenceIdeal
public import Idealize.ShloMosaic.Lib.ValueIdx
public import Idealize.ShloMosaic.Lib.Pointwise
public import Idealize.ShloMosaic.Lib.IdealHost

@[expose] public section

set_option maxRecDepth 16384

noncomputable section

namespace Cert.ReferenceIdeal.Ref

open Idealize.ShloMosaic
open Cert.ReferenceIdeal Cert.ReferenceIdeal.Gen

/-- A gather of whole rows: where the start index is a row number in range, the row of that number. -/
theorem gather_rows {N : ℕ} {sI sR : Shape} (d : GatherDims ⟨2, ![N, 64]⟩ sI sR) (hcoll : d.collapsedSliceDims = [0])
    (hob : d.operandBatchingDims = []) (hsim : d.startIndexMap = [0]) (x : FVec Ideal ⟨2, ![N, 64]⟩ .f32) (idx : IVec sI 32)
    (y : sR.Idx) (k : sI.Idx) (v : Fin N) (j : Fin 64) (hk : ∀ p, d.siIdx y p = k) (hj : d.offCoord y 1 = j.val)
    (hv : (idx k).toInt = (v.val : ℤ)) : Host.gather d x idx y = x (ix2 v j) := by
  unfold Host.gather
  refine congrArg x (funext fun a => Fin.ext ?_)
  have hbN : ∀ a', a' ∉ d.operandBatchingDims := fun a' => by rw [hob]; exact List.not_mem_nil
  match a with
  | ⟨0, _⟩ =>
    have h0 : (0 : Fin 2) ∉ d.sKept := fun h => ((d.mem_sKept 0).1 h).1 (by rw [hcoll]; exact List.mem_singleton.2 rfl)
    have hm : (0 : Fin 2) ∈ d.startIndexMap := by rw [hsim]; exact List.mem_singleton.2 rfl
    have hsl : d.sliceSizes 0 = 1 := d.slice_collapsed 0 (by rw [hcoll]; exact List.mem_singleton.2 rfl)
    show d.start y idx 0 + d.batchCoord y 0 + d.offCoord y 0 = v.val
    rw [d.batchCoord_eq_zero _ _ (hbN 0), d.offCoord_eq_zero _ _ h0]
    unfold GatherDims.start
    rw [dif_pos hm, hk, hv, hsl]
    show min (v.val : ℤ).toNat (N - 1) + 0 + 0 = v.val
    have := v.isLt
    omega
  | ⟨1, _⟩ =>
    have hm : (1 : Fin 2) ∉ d.startIndexMap := by
      rw [hsim]; exact fun h => absurd (congrArg Fin.val (List.mem_singleton.1 h)) Nat.one_ne_zero
    show d.start y idx 1 + d.batchCoord y 1 + d.offCoord y 1 = j.val
    rw [d.batchCoord_eq_zero _ _ (hbN 1), hj]
    unfold GatherDims.start
    rw [dif_neg hm]
    omega

/-- A card's row. -/
theorem gather53 (x : FVec Ideal S53x64 .f32) (idx : IVec S1024x50x7x1 32) (v : Fin 53) (b : Fin 1024) (t : Fin 50) (c : Fin 7) (j : Fin 64)
    (hv : (idx (ix4 b t c 0)).toInt = (v.val : ℤ)) : Host.gather gather_S53x64_S1024x50x7x1_S1024x50x7x64_3_0_n_n_0_3_164 x idx (ix4 b t c j) = x (ix2 v j) := by
  refine gather_rows _ rfl rfl rfl x idx _ (ix4 b t c 0) v j (fun p => funext fun a => Fin.ext ?_) rfl hv
  match a with
  | ⟨0, _⟩ => rfl
  | ⟨1, _⟩ => rfl
  | ⟨2, _⟩ => rfl
  | ⟨3, _⟩ => exact Nat.lt_one_iff.1 p.isLt

/-- A position's row. -/
theorem gather9 (x : FVec Ideal S9x64 .f32) (idx : IVec S1024x50x1 32) (v : Fin 9) (b : Fin 1024) (t : Fin 50) (j : Fin 64)
    (hv : (idx (ix3 b t 0)).toInt = (v.val : ℤ)) : Host.gather gather_S9x64_S1024x50x1_S1024x50x64_2_0_n_n_0_2_164 x idx (ix3 b t j) = x (ix2 v j) := by
  refine gather_rows _ rfl rfl rfl x idx _ (ix3 b t 0) v j (fun p => funext fun a => Fin.ext ?_) rfl hv
  match a with
  | ⟨0, _⟩ => rfl
  | ⟨1, _⟩ => rfl
  | ⟨2, _⟩ => exact Nat.lt_one_iff.1 p.isLt

/-- A player count's row. -/
theorem gather10 (x : FVec Ideal S10x64 .f32) (idx : IVec S1024x50x1 32) (v : Fin 10) (b : Fin 1024) (t : Fin 50) (j : Fin 64)
    (hv : (idx (ix3 b t 0)).toInt = (v.val : ℤ)) : Host.gather gather_S10x64_S1024x50x1_S1024x50x64_2_0_n_n_0_2_164 x idx (ix3 b t j) = x (ix2 v j) := by
  refine gather_rows _ rfl rfl rfl x idx _ (ix3 b t 0) v j (fun p => funext fun a => Fin.ext ?_) rfl hv
  match a with
  | ⟨0, _⟩ => rfl
  | ⟨1, _⟩ => rfl
  | ⟨2, _⟩ => exact Nat.lt_one_iff.1 p.isLt

/-- A source's row. -/
theorem gather2 (x : FVec Ideal S2x64 .f32) (idx : IVec S7x1 32) (v : Fin 2) (c : Fin 7) (j : Fin 64)
    (hv : (idx (ix2 c 0)).toInt = (v.val : ℤ)) : Host.gather gather_S2x64_S7x1_S7x64_1_0_n_n_0_1_164 x idx (ix2 c j) = x (ix2 v j) := by
  refine gather_rows _ rfl rfl rfl x idx _ (ix2 c 0) v j (fun p => funext fun a => Fin.ext ?_) rfl hv
  match a with
  | ⟨0, _⟩ => rfl
  | ⟨1, _⟩ => exact Nat.lt_one_iff.1 p.isLt

/-- A word between zero and `hi` passes both tests. -/
theorem in_range (w hi : BitVec 32) (h0 : 0 ≤ w.toInt) (h1 : w.toInt ≤ hi.toInt) :
    IntOp.andi (IntOp.cmpi CmpIPredicate.sge w 0#32) (IntOp.cmpi CmpIPredicate.sle w hi) = 1#1 := by
  have e0 : IntOp.cmpi CmpIPredicate.sge w 0#32 = 1#1 := by
    simp only [IntOp.cmpi, BitVec.sle, BitVec.toInt_zero, decide_eq_true h0]; rfl
  have e1 : IntOp.cmpi CmpIPredicate.sle w hi = 1#1 := by
    simp only [IntOp.cmpi, BitVec.sle, decide_eq_true h1]; rfl
  rw [e0, e1]; rfl

/-- A word that is not negative is left as it is by the wrap of negative indices. -/
theorem wrap_word (w n : BitVec 32) (h0 : 0 ≤ w.toInt) :
    Scalar.select (IntOp.cmpi CmpIPredicate.slt w 0#32) (IntOp.addi w n) w = w := by
  have e0 : IntOp.cmpi CmpIPredicate.slt w 0#32 = 0#1 := by
    simp only [IntOp.cmpi, BitVec.slt, BitVec.toInt_zero, decide_eq_false (not_lt.2 h0)]; rfl
  rw [e0]; rfl

/-- A conjunction over one test that holds. -/
theorem fold_one (f : Fin 1 → BitVec 1) (h : f 0 = 1#1) : Finset.fold IntOp.andi (1#1) f Finset.univ = 1#1 := by
  rw [Finset.univ_unique, Finset.fold_singleton]
  show IntOp.andi (f 0) 1#1 = 1#1
  rw [h]; rfl

/-! ## The three shapes of indices: negative indices wrapped, rows outside the table replaced -/

/-- One index per token, wrapped. -/
def wrap3 (n : BitVec 32) (w : IVec S1024x50 32) : IVec S1024x50x1 32 :=
  broadcastInDim S1024x50x1 ![0, 1] bcast_S1024x50_S1024x50x1_0_1
    (select (cmpi .slt w (broadcastInDim S1024x50 ![] bcast_S_S1024x50 (constantI S_ 32 0#32)))
      (addi w (broadcastInDim S1024x50 ![] bcast_S_S1024x50 (constantI S_ 32 n))) w)

/-- One row per token, replaced where the index is outside. -/
def rows3 (hi : BitVec 32) (idx : IVec S1024x50x1 32) (g : FVec Ideal S1024x50x64 .f32) : FVec Ideal S1024x50x64 .f32 :=
  select (broadcastInDim S1024x50x64 ![0, 1] bcast_S1024x50_S1024x50x64_0_1
    (Host.reduce IntOp.andi (andi (cmpi .sge idx (broadcastInDim S1024x50x1 ![] bcast_S_S1024x50x1 (constantI S_ 32 0#32)))
      (cmpi .sle idx (broadcastInDim S1024x50x1 ![0, 1, 2] bcast_S1x1x1_S1024x50x1_0_1_2
        (broadcastInDim S1x1x1 ![2] bcast_S1_S1x1x1_2 (constantI S1 32 hi)))))
      (constantI S_ 1 1#1) reducesTo_S1024x50x1_S1024x50_d2 h_S_)) g
    (broadcastInDim S1024x50x64 ![] bcast_S_S1024x50x64 (constant S_ .f32 0x7FC00000#32))

/-- Wrapping leaves a nonnegative index as it is, one per token. -/
theorem wrap3_apply (n : BitVec 32) (w : IVec S1024x50 32) (b : Fin 1024) (t : Fin 50) (h0 : 0 ≤ (w (ix2 b t)).toInt) :
    wrap3 n w (ix3 b t 0) = w (ix2 b t) := by
  pointwise [wrap3]
  exact wrap_word _ _ h0

/-- An index in range keeps the row taken, one per token. -/
theorem rows3_apply (hi : BitVec 32) (idx : IVec S1024x50x1 32) (g : FVec Ideal S1024x50x64 .f32) (b : Fin 1024) (t : Fin 50)
    (j : Fin 64) (h0 : 0 ≤ (idx (ix3 b t 0)).toInt) (h1 : (idx (ix3 b t 0)).toInt ≤ hi.toInt) :
    rows3 hi idx g (ix3 b t j) = g (ix3 b t j) := by
  pointwise [rows3]
  rw [fold_one _ (in_range _ _ h0 h1)]
  rfl

/-- One index per card place, wrapped. -/
def wrap4 (w : IVec S1024x50x7 32) : IVec S1024x50x7x1 32 :=
  broadcastInDim S1024x50x7x1 ![0, 1, 2] bcast_S1024x50x7_S1024x50x7x1_0_1_2
    (select (cmpi .slt w (broadcastInDim S1024x50x7 ![] bcast_S_S1024x50x7 (constantI S_ 32 0#32)))
      (addi w (broadcastInDim S1024x50x7 ![] bcast_S_S1024x50x7 (constantI S_ 32 53#32))) w)

/-- One row per card place, replaced where the index is outside. -/
def rows4 (idx : IVec S1024x50x7x1 32) (g : FVec Ideal S1024x50x7x64 .f32) : FVec Ideal S1024x50x7x64 .f32 :=
  select (broadcastInDim S1024x50x7x64 ![0, 1, 2] bcast_S1024x50x7_S1024x50x7x64_0_1_2
    (Host.reduce IntOp.andi (andi (cmpi .sge idx (broadcastInDim S1024x50x7x1 ![] bcast_S_S1024x50x7x1 (constantI S_ 32 0#32)))
      (cmpi .sle idx (broadcastInDim S1024x50x7x1 ![0, 1, 2, 3] bcast_S1x1x1x1_S1024x50x7x1_0_1_2_3
        (broadcastInDim S1x1x1x1 ![3] bcast_S1_S1x1x1x1_3 (constantI S1 32 52#32)))))
      (constantI S_ 1 1#1) reducesTo_S1024x50x7x1_S1024x50x7_d3 h_S_)) g
    (broadcastInDim S1024x50x7x64 ![] bcast_S_S1024x50x7x64 (constant S_ .f32 0x7FC00000#32))

/-- Wrapping leaves a nonnegative index as it is, one per card place. -/
theorem wrap4_apply (w : IVec S1024x50x7 32) (b : Fin 1024) (t : Fin 50) (c : Fin 7) (h0 : 0 ≤ (w (ix3 b t c)).toInt) :
    wrap4 w (ix4 b t c 0) = w (ix3 b t c) := by
  pointwise [wrap4]
  exact wrap_word _ _ h0

/-- An index in range keeps the row taken, one per card place. -/
theorem rows4_apply (idx : IVec S1024x50x7x1 32) (g : FVec Ideal S1024x50x7x64 .f32) (b : Fin 1024) (t : Fin 50) (c : Fin 7)
    (j : Fin 64) (h0 : 0 ≤ (idx (ix4 b t c 0)).toInt) (h1 : (idx (ix4 b t c 0)).toInt ≤ (52#32).toInt) :
    rows4 idx g (ix4 b t c j) = g (ix4 b t c j) := by
  pointwise [rows4]
  rw [fold_one _ (in_range _ _ h0 h1)]
  rfl

/-- One index per place of a card, wrapped. -/
def wrap2 (w : IVec S7 32) : IVec S7x1 32 :=
  broadcastInDim S7x1 ![0] bcast_S7_S7x1_0 (select (cmpi .slt w (broadcastInDim S7 ![] bcast_S_S7 (constantI S_ 32 0#32)))
    (addi w (broadcastInDim S7 ![] bcast_S_S7 (constantI S_ 32 2#32))) w)

/-- One row per place of a card, replaced where the index is outside. -/
def rows2 (idx : IVec S7x1 32) (g : FVec Ideal S7x64 .f32) : FVec Ideal S7x64 .f32 :=
  select (broadcastInDim S7x64 ![0] bcast_S7_S7x64_0
    (Host.reduce IntOp.andi (andi (cmpi .sge idx (broadcastInDim S7x1 ![] bcast_S_S7x1 (constantI S_ 32 0#32)))
      (cmpi .sle idx (broadcastInDim S7x1 ![0, 1] bcast_S1x1_S7x1_0_1 (broadcastInDim S1x1 ![1] bcast_S1_S1x1_1 (constantI S1 32 1#32)))))
      (constantI S_ 1 1#1) reducesTo_S7x1_S7_d1 h_S_)) g
    (broadcastInDim S7x64 ![] bcast_S_S7x64 (constant S_ .f32 0x7FC00000#32))

/-- Wrapping leaves a nonnegative source number as it is. -/
theorem wrap2_apply (w : IVec S7 32) (c : Fin 7) (h0 : 0 ≤ (w (ix1 c)).toInt) : wrap2 w (ix2 c 0) = w (ix1 c) := by
  pointwise [wrap2]
  exact wrap_word _ _ h0

/-- A source number in range keeps the row taken. -/
theorem rows2_apply (idx : IVec S7x1 32) (g : FVec Ideal S7x64 .f32) (c : Fin 7)
    (j : Fin 64) (h0 : 0 ≤ (idx (ix2 c 0)).toInt) (h1 : (idx (ix2 c 0)).toInt ≤ (1#32).toInt) :
    rows2 idx g (ix2 c j) = g (ix2 c j) := by
  pointwise [rows2]
  rw [fold_one _ (in_range _ _ h0 h1)]
  rfl

/-! ## The rows taken -/

/-- The card table's rows, taken by card. -/
theorem take53 (x : FVec Ideal S53x64 .f32) (w : IVec S1024x50x7 32) (v : Fin 53) (b : Fin 1024) (t : Fin 50) (c : Fin 7) (j : Fin 64)
    (hv : (w (ix3 b t c)).toInt = (v.val : ℤ)) :
    rows4 (wrap4 w) (Host.gather gather_S53x64_S1024x50x7x1_S1024x50x7x64_3_0_n_n_0_3_164 x (wrap4 w)) (ix4 b t c j) = x (ix2 v j) := by
  have hw := (congrArg BitVec.toInt (wrap4_apply w b t c (by omega))).trans hv
  refine (rows4_apply _ _ b t c j (by omega) ?_).trans (gather53 x _ v b t c j hw)
  rw [hw]
  show (v.val : ℤ) ≤ 52
  omega

/-- The nine-row tables' rows, taken by position. -/
theorem take9 (x : FVec Ideal S9x64 .f32) (w : IVec S1024x50 32) (v : Fin 9) (b : Fin 1024) (t : Fin 50) (j : Fin 64)
    (hv : (w (ix2 b t)).toInt = (v.val : ℤ)) :
    rows3 8#32 (wrap3 9#32 w) (Host.gather gather_S9x64_S1024x50x1_S1024x50x64_2_0_n_n_0_2_164 x (wrap3 9#32 w)) (ix3 b t j)
      = x (ix2 v j) := by
  have hw := (congrArg BitVec.toInt (wrap3_apply 9#32 w b t (by omega))).trans hv
  refine (rows3_apply _ _ _ b t j (by omega) ?_).trans (gather9 x _ v b t j hw)
  rw [hw]
  show (v.val : ℤ) ≤ 8
  omega

/-- The ten-row table's rows, taken by player count. -/
theorem take10 (x : FVec Ideal S10x64 .f32) (w : IVec S1024x50 32) (v : Fin 10) (b : Fin 1024) (t : Fin 50) (j : Fin 64)
    (hv : (w (ix2 b t)).toInt = (v.val : ℤ)) :
    rows3 9#32 (wrap3 10#32 w) (Host.gather gather_S10x64_S1024x50x1_S1024x50x64_2_0_n_n_0_2_164 x (wrap3 10#32 w)) (ix3 b t j)
      = x (ix2 v j) := by
  have hw := (congrArg BitVec.toInt (wrap3_apply 10#32 w b t (by omega))).trans hv
  refine (rows3_apply _ _ _ b t j (by omega) ?_).trans (gather10 x _ v b t j hw)
  rw [hw]
  show (v.val : ℤ) ≤ 9
  omega

/-- The source table's rows, taken by the source numbers. -/
theorem take2 (x : FVec Ideal S2x64 .f32) (w : IVec S7 32) (v : Fin 2) (c : Fin 7) (j : Fin 64) (hv : (w (ix1 c)).toInt = (v.val : ℤ)) :
    rows2 (wrap2 w) (Host.gather gather_S2x64_S7x1_S7x64_1_0_n_n_0_1_164 x (wrap2 w)) (ix2 c j) = x (ix2 v j) := by
  have hw := (congrArg BitVec.toInt (wrap2_apply w c (by omega))).trans hv
  refine (rows2_apply _ _ c j (by omega) ?_).trans (gather2 x _ v c j hw)
  rw [hw]
  show (v.val : ℤ) ≤ 1
  omega

end Cert.ReferenceIdeal.Ref

end
-- ==== Proof.RefFeat.lean ====
/- The reference's features and their projection, at an index, over the named arguments. -/
module

public import proofs.«01_k».proof.Proof.RefTake
public import proofs.«01_k».proof.Proof.MainPure
public import proofs.«01_k».proof.Proof.Spec

@[expose] public section

set_option maxRecDepth 16384

noncomputable section

namespace Cert.ReferenceIdeal.Ref

open Idealize.ShloMosaic
open Cert.ReferenceIdeal Cert.ReferenceIdeal.Gen Cert.Row Cert.Spec
open Cert.KernelIdeal.Prep (lane)
open scoped BigOperators

/-- The card rows and six rows per token side by side along the last axis, each token's rows repeated over its cards. -/
def feat (cd : FVec Ideal S1024x50x7x64 .f32) (h a n s b e : FVec Ideal S1024x50x64 .f32) : FVec Ideal S1024x50x7x448 .f32 :=
  concatenate S1024x50x7x448 3 [⟨S1024x50x7x64, cd⟩, ⟨S1024x50x7x384,
    (broadcastInDim S1024x50x7x384 ![0, 1, 2, 3] bcast_S1024x50x1x384_S1024x50x7x384_0_1_2_3
      (broadcastInDim S1024x50x1x384 ![0, 1, 3] bcast_S1024x50x384_S1024x50x1x384_0_1_3
        (concatenate S1024x50x384 2 [⟨S1024x50x64, h⟩, ⟨S1024x50x64, a⟩, ⟨S1024x50x64, n⟩, ⟨S1024x50x64, s⟩, ⟨S1024x50x64, b⟩,
          ⟨S1024x50x64, e⟩]
          concatenates_S1024x50x64_S1024x50x64_S1024x50x64_S1024x50x64_S1024x50x64_S1024x50x64_S1024x50x384_d2
          : FVec Ideal S1024x50x384 .f32) : FVec Ideal S1024x50x1x384 .f32) : FVec Ideal S1024x50x7x384 .f32)⟩]
    concatenates_S1024x50x7x64_S1024x50x7x384_S1024x50x7x448_d3

section
variable (cd : FVec Ideal S1024x50x7x64 .f32) (h a n s b e : FVec Ideal S1024x50x64 .f32)
  (i : Fin 1024) (t : Fin 50) (c : Fin 7)

/-- The features at a lane: the array the lane falls in, at its place there. -/
theorem feat_apply (k : Fin 448) : feat cd h a n s b e (ix4 i t c k) =
    if h1 : k.val < 64 then cd (ix4 i t c ⟨k.val, h1⟩)
    else if h2 : k.val - 64 < 64 then h (ix3 i t ⟨k.val - 64, h2⟩)
    else if h3 : k.val - 64 - 64 < 64 then a (ix3 i t ⟨k.val - 64 - 64, h3⟩)
    else if h4 : k.val - 64 - 64 - 64 < 64 then n (ix3 i t ⟨k.val - 64 - 64 - 64, h4⟩)
    else if h5 : k.val - 64 - 64 - 64 - 64 < 64 then s (ix3 i t ⟨k.val - 64 - 64 - 64 - 64, h5⟩)
    else if h6 : k.val - 64 - 64 - 64 - 64 - 64 < 64 then b (ix3 i t ⟨k.val - 64 - 64 - 64 - 64 - 64, h6⟩)
    else e (ix3 i t ⟨k.val - 64 - 64 - 64 - 64 - 64 - 64, by omega⟩) := by
  pointwise [feat]

/-- The features block by block. -/
theorem feat_lane (k : Fin 7) (d : Fin 64) : feat cd h a n s b e (ix4 i t c (lane k d)) =
    (![fun d => cd (ix4 i t c d), fun d => h (ix3 i t d), fun d => a (ix3 i t d), fun d => n (ix3 i t d), fun d => s (ix3 i t d),
      fun d => b (ix3 i t d), fun d => e (ix3 i t d)] : Fin 7 → Fin 64 → EReal) k d := by
  have h4 : ∀ l : Fin 64, l.val = d.val → cd (ix4 i t c l) = cd (ix4 i t c d) := fun l hl => by rw [Fin.ext hl]
  have h3 : ∀ (x : FVec Ideal S1024x50x64 .f32) (l : Fin 64), l.val = d.val → x (ix3 i t l) = x (ix3 i t d) :=
    fun x l hl => by rw [Fin.ext hl]
  rw [feat_apply]
  have hv : (lane k d).val = k.val * 64 + d.val := rfl
  fin_cases k <;> dsimp only at hv <;> simp (disch := omega) only [dif_pos, dif_neg] <;>
    first
      | exact h4 _ (by dsimp only; omega)
      | exact h3 _ _ (by dsimp only; omega)
end

end Cert.ReferenceIdeal.Ref

end
-- ==== Proof.RefOut.lean ====
/- The reference's two results, at an index, over the named arguments. -/
module

public import proofs.«01_k».proof.Proof.RefFeat

@[expose] public section

set_option maxRecDepth 16384

noncomputable section

namespace Cert.ReferenceIdeal.Ref

open Idealize.ShloMosaic
open Cert.ReferenceIdeal Cert.ReferenceIdeal.Gen Cert.Row Cert.Spec
open Cert.KernelIdeal.Prep (lane)
open Cert.KernelIdeal.Main (sum448)
open scoped BigOperators

/-! ## The arrays the reference forms -/

/-- A bias repeated over all tokens. -/
def bias3 (v : FVec Ideal S64 .f32) : FVec Ideal S1024x50x64 .f32 :=
  broadcastInDim S1024x50x64 ![0, 1, 2] bcast_S1x1x64_S1024x50x64_0_1_2 (broadcastInDim S1x1x64 ![2] bcast_S64_S1x1x64_2 v)

/-- A vector repeated over all card places. -/
def bias4 (v : FVec Ideal S64 .f32) : FVec Ideal S1024x50x7x64 .f32 :=
  broadcastInDim S1024x50x7x64 ![0, 1, 2, 3] bcast_S1x1x1x64_S1024x50x7x64_0_1_2_3 (broadcastInDim S1x1x1x64 ![3] bcast_S64_S1x1x1x64_3 v)

/-- The source number of each place. -/
def places : IVec S7 32 := fun i => lit0 (S7.rowMajor i)

variable (A : Args)

/-- The features of every card place. -/
def feats : FVec Ideal S1024x50x7x448 .f32 :=
  feat (rows4 (wrap4 A.card) (Host.gather gather_S53x64_S1024x50x7x1_S1024x50x7x64_3_0_n_n_0_3_164 A.cardT (wrap4 A.card)))
    (rows3 8#32 (wrap3 9#32 A.hero) (Host.gather gather_S9x64_S1024x50x1_S1024x50x64_2_0_n_n_0_2_164 A.heroT (wrap3 9#32 A.hero)))
    (rows3 8#32 (wrap3 9#32 A.acting) (Host.gather gather_S9x64_S1024x50x1_S1024x50x64_2_0_n_n_0_2_164 A.actingT (wrap3 9#32 A.acting)))
    (rows3 9#32 (wrap3 10#32 A.num) (Host.gather gather_S10x64_S1024x50x1_S1024x50x64_2_0_n_n_0_2_164 A.numT (wrap3 10#32 A.num)))
    (addf (Host.dotGeneral dot_S1024x50x2_S2x64_S1024x50x64_2_0_01_1_n_n none A.sc A.Ws) (bias3 A.bs))
    (addf (Host.dotGeneral dot_S1024x50x9_S9x64_S1024x50x64_2_0_01_1_n_n none A.bt A.Wb) (bias3 A.bb))
    (addf (Host.dotGeneral dot_S1024x50x16_S16x64_S1024x50x64_2_0_01_1_n_n none A.ac A.Wa) (bias3 A.ba))

/-- The features' projection. -/
def proj448 (f : FVec Ideal S1024x50x7x448 .f32) : FVec Ideal S1024x50x7x64 .f32 :=
  addf (Host.dotGeneral dot_S1024x50x7x448_S448x64_S1024x50x7x64_3_0_012_1_n_n none f A.Wc) (bias4 A.bc)

/-- A row less its mean, for every row. -/
def centred (x : FVec Ideal S1024x50x7x64 .f32) : FVec Ideal S1024x50x7x64 .f32 :=
  subf x (broadcastInDim S1024x50x7x64 ![0, 1, 2, 3] bcast_S1024x50x7x1_S1024x50x7x64_0_1_2_3
    (Host.divf (broadcastInDim S1024x50x7x1 ![0, 1, 2] bcast_S1024x50x7_S1024x50x7x1_0_1_2
      (Host.reduceAdd x (constant S_ .f32 0x00000000#32) reducesTo_S1024x50x7x64_S1024x50x7_d3 h_S_))
      (broadcastInDim S1024x50x7x1 ![] bcast_S_S1024x50x7x1 (constant S_ .f32 0x42800000#32))))

/-- A row divided by the root of its mean square and the small constant, for every row. -/
def normed (y : FVec Ideal S1024x50x7x64 .f32) : FVec Ideal S1024x50x7x64 .f32 :=
  Host.divf y (broadcastInDim S1024x50x7x64 ![0, 1, 2, 3] bcast_S1024x50x7x1_S1024x50x7x64_0_1_2_3 (Host.sqrt (addf
    (Host.divf (broadcastInDim S1024x50x7x1 ![0, 1, 2] bcast_S1024x50x7_S1024x50x7x1_0_1_2
      (Host.reduceAdd (mulf y y) (constant S_ .f32 0x00000000#32) reducesTo_S1024x50x7x64_S1024x50x7_d3 h_S_))
      (broadcastInDim S1024x50x7x1 ![] bcast_S_S1024x50x7x1 (constant S_ .f32 0x42800000#32)))
    (broadcastInDim S1024x50x7x1 ![] bcast_S_S1024x50x7x1 (constant S_ .f32 0x3727C5AC#32)))))

/-- The source rows repeated over all tokens. -/
def srcs (x : FVec Ideal S7x64 .f32) : FVec Ideal S1024x50x7x64 .f32 :=
  broadcastInDim S1024x50x7x64 ![0, 1, 2, 3] bcast_S1x1x7x64_S1024x50x7x64_0_1_2_3 (broadcastInDim S1x1x7x64 ![2, 3] bcast_S7x64_S1x1x7x64_2_3 x)

/-- The second result: one for the card places of the tokens before the sequence's length, zero for the rest. -/
def maskR : FVec Ideal S1024x350 .f32 :=
  shapeCast _ (broadcastInDim S1024x50x7 ![0, 1] bcast_S1024x50_S1024x50x7_0_1 (uitofp .f32
    (cmpi .slt (broadcastInDim S1024x50 ![0, 1] bcast_S1x50_S1024x50_0_1 (broadcastInDim S1x50 ![1] bcast_S50_S1x50_1 (iotaInDim S50 32 0)))
      (broadcastInDim S1024x50 ![0, 1] bcast_S1024x1_S1024x50_0_1 (broadcastInDim S1024x1 ![0] bcast_S1024_S1024x1_0 A.len)))))
    shapeCasts_S1024x50x7_S1024x350

/-- The first result, over the rows before the mask. -/
def outR (x : FVec Ideal S1024x50x7x64 .f32) : FVec Ideal S1024x350x64 .f32 :=
  mulf (shapeCast _ x shapeCasts_S1024x50x7x64_S1024x350x64) (broadcastInDim S1024x350x64 ![0, 1, 2] bcast_S1024x350x1_S1024x350x64_0_1_2
    (broadcastInDim S1024x350x1 ![0, 1] bcast_S1024x350_S1024x350x1_0_1 (maskR A)))

/-- The normalised rows, scaled and shifted, with the source rows added. -/
def body : FVec Ideal S1024x50x7x64 .f32 :=
  addf (addf (mulf (normed (centred (proj448 A (feats A)))) (bias4 A.gamma)) (bias4 A.beta))
    (srcs (rows2 (wrap2 places) (Host.gather gather_S2x64_S7x1_S7x64_1_0_n_n_0_1_164 A.srcT (wrap2 places))))

/-! ## The same at an index -/

variable {A}

/-- A repeated bias at an index. -/
theorem bias3_apply (v : FVec Ideal S64 .f32) (b : Fin 1024) (t : Fin 50) (j : Fin 64) : bias3 v (ix3 b t j) = v (ix1 j) := by
  pointwise [bias3]

/-- A repeated vector at an index. -/
theorem bias4_apply (v : FVec Ideal S64 .f32) (b : Fin 1024) (t : Fin 50) (c : Fin 7) (j : Fin 64) :
    bias4 v (ix4 b t c j) = v (ix1 j) := by
  pointwise [bias4]

/-- The repeated source rows at an index. -/
theorem srcs_apply (x : FVec Ideal S7x64 .f32) (b : Fin 1024) (t : Fin 50) (c : Fin 7) (j : Fin 64) :
    srcs x (ix4 b t c j) = x (ix2 c j) := by
  pointwise [srcs]

/-- The scalar features through their layer. -/
theorem dense2 (x : FVec Ideal S1024x50x2 .f32) (W : FVec Ideal S2x64 .f32) (v : FVec Ideal S64 .f32) (b : Fin 1024) (t : Fin 50)
    (j : Fin 64) : (addf (Host.dotGeneral dot_S1024x50x2_S2x64_S1024x50x64_2_0_01_1_n_n none x W) (bias3 v) : FVec Ideal S1024x50x64 .f32)
      (ix3 b t j) = (∑ p : Fin 2, x (ix3 b t p) * W (ix2 p j)) + v (ix1 j) := by
  pointwise [bias3]

/-- The bet features through their layer. -/
theorem dense9 (x : FVec Ideal S1024x50x9 .f32) (W : FVec Ideal S9x64 .f32) (v : FVec Ideal S64 .f32) (b : Fin 1024) (t : Fin 50)
    (j : Fin 64) : (addf (Host.dotGeneral dot_S1024x50x9_S9x64_S1024x50x64_2_0_01_1_n_n none x W) (bias3 v) : FVec Ideal S1024x50x64 .f32)
      (ix3 b t j) = (∑ p : Fin 9, x (ix3 b t p) * W (ix2 p j)) + v (ix1 j) := by
  pointwise [bias3]

/-- The action features through their layer. -/
theorem dense16 (x : FVec Ideal S1024x50x16 .f32) (W : FVec Ideal S16x64 .f32) (v : FVec Ideal S64 .f32) (b : Fin 1024) (t : Fin 50)
    (j : Fin 64) : (addf (Host.dotGeneral dot_S1024x50x16_S16x64_S1024x50x64_2_0_01_1_n_n none x W) (bias3 v) : FVec Ideal S1024x50x64 .f32)
      (ix3 b t j) = (∑ p : Fin 16, x (ix3 b t p) * W (ix2 p j)) + v (ix1 j) := by
  pointwise [bias3]

/-- The projection at an index: a sum over the 448 lanes. -/
theorem proj448_apply (f : FVec Ideal S1024x50x7x448 .f32) (b : Fin 1024) (t : Fin 50) (c : Fin 7) (j : Fin 64) :
    proj448 A f (ix4 b t c j) = (∑ k : Fin 448, f (ix4 b t c k) * A.Wc (ix2 k j)) + A.bc (ix1 j) := by
  pointwise [proj448, bias4]

/-- A row less its mean, at an index. -/
theorem centred_apply (x : FVec Ideal S1024x50x7x64 .f32) (b : Fin 1024) (t : Fin 50) (c : Fin 7) (j : Fin 64) :
    centred x (ix4 b t c j) = sub_mean (fun k => x (ix4 b t c k)) j := by
  pointwise [centred]
  rfl

/-- A normalised row, at an index. -/
theorem normed_apply (y : FVec Ideal S1024x50x7x64 .f32) (b : Fin 1024) (t : Fin 50) (c : Fin 7) (j : Fin 64) :
    normed y (ix4 b t c j) = normR (fun k => y (ix4 b t c k)) j := by
  pointwise [normed]
  rfl

/-- The second result at an index. -/
theorem maskR_apply (b : Fin 1024) (i : Fin 350) : maskR A (ix2 b i) = mask A b i := by
  pointwise [maskR]
  have hi : (BitVec.ofNat 32 (i.val / 7)).toInt = ((i.val / 7 : ℕ) : ℤ) := by
    rw [BitVec.toInt_eq_toNat_of_lt (by rw [BitVec.toNat_ofNat]; omega), BitVec.toNat_ofNat]
    omega
  unfold mask
  rw [← hi]
  by_cases h : (BitVec.ofNat 32 (i.val / 7)).toInt < (A.len (ix1 b)).toInt
  · have e : IntOp.cmpi CmpIPredicate.slt (BitVec.ofNat 32 (i.val / 7)) (A.len (ix1 b)) = 1#1 := by
      simp [IntOp.cmpi, BitVec.slt, h]
    rw [if_pos h, e]
    show (((1#1 : BitVec 1).toNat : ℝ) : EReal) = 1
    simp
  · have e : IntOp.cmpi CmpIPredicate.slt (BitVec.ofNat 32 (i.val / 7)) (A.len (ix1 b)) = 0#1 := by
      simp [IntOp.cmpi, BitVec.slt, h]
    rw [if_neg h, e]
    show (((0#1 : BitVec 1).toNat : ℝ) : EReal) = 0
    simp

/-- The first result at an index: the row times the mask. -/
theorem outR_apply (x : FVec Ideal S1024x50x7x64 .f32) (b : Fin 1024) (i : Fin 350) (j : Fin 64) :
    outR A x (ix3 b i j) = x (ix4 b ⟨i.val / 7, by omega⟩ ⟨i.val % 7, by omega⟩ j) * maskR A (ix2 b i) := by
  pointwise [outR]

/-- The source number of a place is zero for the first five places and one for the last two. -/
theorem places_apply (c : Fin 7) : (places (ix1 c)).toInt = (((if c.val < 5 then 0 else 1 : Fin 2)).val : ℤ) := by
  fin_cases c <;> rfl

variable (T : Tame A)

include T in
/-- The features of one card place, block by block. -/
theorem feats_lane (b : Fin 1024) (t : Fin 50) (c k : Fin 7) (d : Fin 64) : feats A (ix4 b t c (lane k d)) =
    (![fun d => A.cardT (ix2 (T.card b t c) d), fun d => A.heroT (ix2 (T.hero b t) d), fun d => A.actingT (ix2 (T.acting b t) d),
      fun d => A.numT (ix2 (T.num b t) d), fun d => (∑ p, (T.s b t p : EReal) * A.Ws (ix2 p d)) + A.bs (ix1 d),
      fun d => (∑ p, (T.b b t p : EReal) * A.Wb (ix2 p d)) + A.bb (ix1 d),
      fun d => (∑ p, (T.a b t p : EReal) * A.Wa (ix2 p d)) + A.ba (ix1 d)] : Fin 7 → Fin 64 → EReal) k d := by
  unfold feats
  rw [feat_lane]
  refine congrFun (congrFun ?_ k) d
  simp only [take53 _ _ _ b t c _ (T.card_eq b t c), take9 _ _ _ b t _ (T.hero_eq b t), take9 _ _ _ b t _ (T.acting_eq b t),
    take10 _ _ _ b t _ (T.num_eq b t), dense2, dense9, dense16, T.s_eq, T.b_eq, T.a_eq]

/-- The features' projection is the reference's row. -/
theorem proj448_feats (b : Fin 1024) (t : Fin 50) (c : Fin 7) (j : Fin 64) :
    proj448 A (feats A) (ix4 b t c j) = rowOfR T b t c j := by
  rw [proj448_apply, sum448]
  have h : ∀ k : Fin 7, (∑ d : Fin 64, feats A (ix4 b t c (lane k d)) * A.Wc (ix2 (lane k d) j)) = proj (A.w k) ((![fun d => A.cardT (ix2 (T.card b t c) d), fun d => A.heroT (ix2 (T.hero b t) d), fun d => A.actingT (ix2 (T.acting b t) d),
      fun d => A.numT (ix2 (T.num b t) d), fun d => (∑ p, (T.s b t p : EReal) * A.Ws (ix2 p d)) + A.bs (ix1 d),
      fun d => (∑ p, (T.b b t p : EReal) * A.Wb (ix2 p d)) + A.bb (ix1 d),
      fun d => (∑ p, (T.a b t p : EReal) * A.Wa (ix2 p d)) + A.ba (ix1 d)] : Fin 7 → Fin 64 → EReal) k) j := fun k => by
    unfold proj
    refine Finset.sum_congr rfl fun d _ => ?_
    rw [feats_lane T b t c k d]
    rfl
  rw [Finset.sum_congr rfl fun k _ => h k, Fin.sum_univ_seven]
  rfl

/-- The first result before the mask. -/
theorem body_apply (b : Fin 1024) (t : Fin 50) (c : Fin 7) (j : Fin 64) : body A (ix4 b t c j)
    = (normR (sub_mean (rowOfR T b t c)) j * A.gamma (ix1 j) + A.beta (ix1 j)) + A.srcT (ix2 (if c.val < 5 then 0 else 1) j) := by
  have h : (fun k => centred (proj448 A (feats A)) (ix4 b t c k)) = sub_mean (rowOfR T b t c) := funext fun k => by
    rw [centred_apply]
    exact congrArg (sub_mean · k) (funext fun k => proj448_feats T b t c k)
  show (normed _ (ix4 b t c j) * bias4 A.gamma (ix4 b t c j) + bias4 A.beta (ix4 b t c j)) + srcs _ (ix4 b t c j) = _
  rw [normed_apply, h, bias4_apply, bias4_apply, srcs_apply, take2 _ _ _ c j (places_apply c)]

/-- The first result at an index. -/
theorem outR_body (b : Fin 1024) (i : Fin 350) (j : Fin 64) :
    outR A (body A) (ix3 b i j) = out T b ⟨i.val / 7, by omega⟩ ⟨i.val % 7, by omega⟩ j := by
  rw [outR_apply, body_apply T, maskR_apply, out_eq]
  rfl

end Cert.ReferenceIdeal.Ref

end
-- ==== Proof.Pre.lean ====
/- What the precondition says: the index words name rows of their tables, and the features and the weights that meet them
   are finite numbers. -/
module

public import proofs.«01_k».proof.Defs
public import proofs.«01_k».proof.Proof.Gen.Pre_tame
public import proofs.«01_k».proof.Proof.Spec
public import proofs.«01_k».proof.Proof.KTables
public import Idealize.ShloMosaic.Lib.ReduceAll
public import Idealize.ShloMosaic.Lib.Pointwise

@[expose] public section

set_option maxRecDepth 16384

noncomputable section

namespace Cert.Pre_tame.Read

open Idealize.ShloMosaic Idealize.SL.Sem
open Cert.Pre_tame Cert.Spec

/-- A conjunction that is true has both parts true. -/
theorem both {x y : IVec S_ 1} {i : S_.Idx} (e : andi x y i = 1#1) : x i = 1#1 ∧ y i = 1#1 := IntOp.andi_eq_one.1 e

/-- A word that passes both comparisons lies between the bounds. -/
theorem word_between (w n : BitVec 32) (e : IntOp.andi (IntOp.cmpi .sge w 0#32) (IntOp.cmpi .slt w n) = 1#1) :
    0 ≤ w.toInt ∧ w.toInt < n.toInt := by
  have one (p : Bool) : (BitVec.ofBool p = 1#1) ↔ p = true := by cases p <;> decide
  obtain ⟨h, h'⟩ := IntOp.andi_eq_one.1 e
  simp only [IntOp.cmpi, one, BitVec.sle, BitVec.slt, decide_eq_true_eq] at h h'
  exact ⟨h, h'⟩

/-- A number whose absolute value is below infinity is a real. -/
theorem real_of_abs_lt (x : EReal) (e : (FloatOps.cmpf .olt (FloatOps.hostAbsf (x : Ideal .f32)) (FloatOps.ofBits (F := Ideal) .f32 0x7F800000#32)) = 1#1) :
    ∃ r : ℝ, x = (r : EReal) := by
  induction x using EReal.rec with
  | coe r => exact ⟨r, rfl⟩
  | bot => exfalso; revert e; simp [FloatOps.cmpf, FloatOps.hostAbsf, FloatOps.ofBits, Ideal.cmp, Ideal.ofBits, Ideal.ieee]
  | top => exfalso; revert e; simp [FloatOps.cmpf, FloatOps.hostAbsf, FloatOps.ofBits, Ideal.cmp, Ideal.ofBits, Ideal.ieee]

variable {s : Shape} {axes : List (Fin s.rank)} (h : s.ReducesTo axes S_) (hu : 0 < S_.numel) (hb : S_.BroadcastsInDim s (![] : Fin 0 → Fin s.rank))

/-- An index array that passes its test: every word lies in its table. -/
theorem words (x : IVec s 32) (n : BitVec 32) (i : S_.Idx)
    (e : Host.reduce IntOp.andi (andi (cmpi .sge x (broadcastInDim s ![] hb (constantI S_ 32 0#32)))
      (cmpi .slt x (broadcastInDim s ![] hb (constantI S_ 32 n)))) (constantI S_ 1 1#1) h hu i = 1#1) (y : s.Idx) :
    0 ≤ (x y).toInt ∧ (x y).toInt < n.toInt :=
  word_between _ _ (Host.reduce_andi_all _ _ h hu i e y)

/-- A float array that passes its test: every number is a real. -/
theorem reals (x : FVec Ideal s .f32) (i : S_.Idx)
    (e : Host.reduce IntOp.andi (cmpf .olt (Host.absf x) (broadcastInDim s ![] hb (constant S_ .f32 0x7F800000#32)))
      (constantI S_ 1 1#1) h hu i = 1#1) (y : s.Idx) : ∃ r : ℝ, x y = (r : EReal) :=
  real_of_abs_lt _ (Host.reduce_andi_all _ _ h hu i e y)

/-- A word in range as an index. -/
theorem as_fin {w : BitVec 32} {n : ℕ} (hw : 0 ≤ w.toInt ∧ w.toInt < (n : ℤ)) : ∃ v : Fin n, w.toInt = (v.val : ℤ) :=
  ⟨⟨w.toInt.toNat, by omega⟩, (Int.toNat_of_nonneg hw.1).symm⟩

/-- The weights' rows from row 256 on, cut out: row `k` of the cut is row `256 + k`. -/
theorem rows_256 (x : FVec Ideal S448x64 .f32) (k : Fin 192) (j : Fin 64) (l : Fin 448) (h : l.val = 256 + k.val) :
    (extractStridedSlice S192x64 ![256, 0] x Facts.slices_S448x64_S192x64_256_0 : FVec Ideal S192x64 .f32) (ix2 k j) = x (ix2 l j) := by
  pointwise
  exact congrArg x (congrArg₂ ix2 (Fin.ext h.symm) rfl)

/-- The precondition's test as eight facts about the arguments. -/
theorem tame_of (A : Args) (e : Cert.Pre_tame.fn (F := Ideal) A.card A.hero A.acting A.num A.sc A.bt A.ac A.len A.cardT A.srcT
    A.heroT A.actingT A.numT A.Ws A.bs A.Wb A.bb A.Wa A.ba A.Wc A.bc A.gamma A.beta ix0 = 1#1) : Nonempty (Tame A) := by
  obtain ⟨e, h7⟩ := both e
  obtain ⟨e, h6⟩ := both e
  obtain ⟨e, h5⟩ := both e
  obtain ⟨e, h4⟩ := both e
  obtain ⟨e, h3⟩ := both e
  obtain ⟨e, h2⟩ := both e
  obtain ⟨h0, h1⟩ := both e
  choose card hcard using fun b t c => as_fin (n := 53) (words _ _ _ _ _ _ h0 (ix3 b t c))
  choose hero hhero using fun b t => as_fin (n := 9) (words _ _ _ _ _ _ h1 (ix2 b t))
  choose acting hacting using fun b t => as_fin (n := 9) (words _ _ _ _ _ _ h2 (ix2 b t))
  choose num hnum using fun b t => as_fin (n := 10) (words _ _ _ _ _ _ h3 (ix2 b t))
  choose s hs using fun b t p => reals _ _ _ _ _ h4 (ix3 b t p)
  choose f hf using fun b t p => reals _ _ _ _ _ h5 (ix3 b t p)
  choose a ha using fun b t p => reals _ _ _ _ _ h6 (ix3 b t p)
  choose w hw using fun (k : Fin 3) (d j : Fin 64) => (reals _ _ _ _ _ h7 (ix2 ⟨k.val * 64 + d.val, by omega⟩ j)).imp
    fun r hr => (rows_256 A.Wc ⟨k.val * 64 + d.val, by omega⟩ j ⟨(k.val + 4) * 64 + d.val, by omega⟩
      (by show (k.val + 4) * 64 + d.val = 256 + (k.val * 64 + d.val); omega)).symm.trans hr
  exact ⟨⟨card, hcard, hero, hhero, acting, hacting, num, hnum, s, hs, f, hf, a, ha, w, hw⟩⟩

/-- The precondition of the claim gives what the proof uses of the arguments. -/
theorem tame_kArgs (m : (ℓ : Loc Cert.KernelIdeal.nD Cert.KernelIdeal.τ Cert.KernelIdeal.sig) → Buf (Elt Ideal) ℓ)
    (h : Cert.Pre_KernelIdeal_tame m) (c : Dev Cert.KernelIdeal.nD) : Nonempty (Tame (Cert.KernelIdeal.Final.kArgs m c)) :=
  tame_of _ (congrFun (h c) _)

end Cert.Pre_tame.Read

end
-- ==== Proof.Agree.lean ====
/- The kernel's two results are the reference's, over the arguments the two are launched on. -/
module

public import proofs.«01_k».proof.Proof.KFinal
public import proofs.«01_k».proof.Proof.RefOut
public import proofs.«01_k».proof.Proof.Pre

@[expose] public section

set_option maxRecDepth 16384

noncomputable section

namespace Cert.Agree

open Idealize.ShloMosaic Idealize.ShloMosaic.TcCoe Idealize.SL.Sem Idealize.ShloMosaic.StableHlo
open Cert.Spec Cert.KernelIdeal.Final Cert.ReferenceIdeal.Ref

/-- The reference's arguments as launched, named. -/
def rArgs (m' : (ℓ : Loc ReferenceIdeal.nD ReferenceIdeal.τ ReferenceIdeal.sig) → Buf (Elt Ideal) ℓ) (c : Dev ReferenceIdeal.nD) : Args where
  card := m' ((c : Thread ReferenceIdeal.nD ReferenceIdeal.τ).loc ReferenceIdeal.main_arg0)
  hero := m' ((c : Thread ReferenceIdeal.nD ReferenceIdeal.τ).loc ReferenceIdeal.main_arg1)
  acting := m' ((c : Thread ReferenceIdeal.nD ReferenceIdeal.τ).loc ReferenceIdeal.main_arg2)
  num := m' ((c : Thread ReferenceIdeal.nD ReferenceIdeal.τ).loc ReferenceIdeal.main_arg3)
  sc := m' ((c : Thread ReferenceIdeal.nD ReferenceIdeal.τ).loc ReferenceIdeal.main_arg4)
  bt := m' ((c : Thread ReferenceIdeal.nD ReferenceIdeal.τ).loc ReferenceIdeal.main_arg5)
  ac := m' ((c : Thread ReferenceIdeal.nD ReferenceIdeal.τ).loc ReferenceIdeal.main_arg6)
  len := m' ((c : Thread ReferenceIdeal.nD ReferenceIdeal.τ).loc ReferenceIdeal.main_arg7)
  cardT := m' ((c : Thread ReferenceIdeal.nD ReferenceIdeal.τ).loc ReferenceIdeal.main_arg8)
  srcT := m' ((c : Thread ReferenceIdeal.nD ReferenceIdeal.τ).loc ReferenceIdeal.main_arg9)
  heroT := m' ((c : Thread ReferenceIdeal.nD ReferenceIdeal.τ).loc ReferenceIdeal.main_arg10)
  actingT := m' ((c : Thread ReferenceIdeal.nD ReferenceIdeal.τ).loc ReferenceIdeal.main_arg11)
  numT := m' ((c : Thread ReferenceIdeal.nD ReferenceIdeal.τ).loc ReferenceIdeal.main_arg12)
  Ws := m' ((c : Thread ReferenceIdeal.nD ReferenceIdeal.τ).loc ReferenceIdeal.main_arg13)
  bs := m' ((c : Thread ReferenceIdeal.nD ReferenceIdeal.τ).loc ReferenceIdeal.main_arg14)
  Wb := m' ((c : Thread ReferenceIdeal.nD ReferenceIdeal.τ).loc ReferenceIdeal.main_arg15)
  bb := m' ((c : Thread ReferenceIdeal.nD ReferenceIdeal.τ).loc ReferenceIdeal.main_arg16)
  Wa := m' ((c : Thread ReferenceIdeal.nD ReferenceIdeal.τ).loc ReferenceIdeal.main_arg17)
  ba := m' ((c : Thread ReferenceIdeal.nD ReferenceIdeal.τ).loc ReferenceIdeal.main_arg18)
  Wc := m' ((c : Thread ReferenceIdeal.nD ReferenceIdeal.τ).loc ReferenceIdeal.main_arg19)
  bc := m' ((c : Thread ReferenceIdeal.nD ReferenceIdeal.τ).loc ReferenceIdeal.main_arg20)
  gamma := m' ((c : Thread ReferenceIdeal.nD ReferenceIdeal.τ).loc ReferenceIdeal.main_arg21)
  beta := m' ((c : Thread ReferenceIdeal.nD ReferenceIdeal.τ).loc ReferenceIdeal.main_arg22)

/-- The first result: the reference's array is the kernel's. -/
theorem out_agree (m : (ℓ : Loc KernelIdeal.nD KernelIdeal.τ KernelIdeal.sig) → Buf (Elt Ideal) ℓ) (ρ : Dev KernelIdeal.nD → PrngReg)
    (c : Dev KernelIdeal.nD) (T : Tame (kArgs m c)) :
    outR (kArgs m c) (body (kArgs m c))
      = (KernelIdeal.Gen.W5 m ρ c (Proc.devRef .tc KernelIdeal.main_v21) : FVec Ideal KernelIdeal.S1024x350x64 .f32) :=
  funext fun y => by rw [eq_ix3 y]; exact (outR_body T _ _ _).trans (out_read ρ T _ _ _).symm

/-- The second result: the reference's array is the kernel's. -/
theorem mask_agree (m : (ℓ : Loc KernelIdeal.nD KernelIdeal.τ KernelIdeal.sig) → Buf (Elt Ideal) ℓ) (ρ : Dev KernelIdeal.nD → PrngReg)
    (c : Dev KernelIdeal.nD) :
    maskR (kArgs m c)
      = (KernelIdeal.Gen.W5 m ρ c (Proc.devRef .tc KernelIdeal.main_v20_1) : FVec Ideal KernelIdeal.S1024x350 .f32) :=
  funext fun y => by rw [eq_ix2 y]; exact (maskR_apply _ _).trans (mask_read ρ _ _).symm

end Cert.Agree

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_tame
public import proofs.«01_k».proof.Proof.KRun
public import proofs.«01_k».proof.Proof.Agree
public import Idealize.ShloMosaic.Adequacy
public import Idealize.ShloMosaic.Init

@[expose] public section

noncomputable section

namespace Cert.Proof

open Idealize.ShloMosaic Idealize.SL.Sem Cert.Agree Cert.KernelIdeal.Final

/-- The reference runs and keeps its arguments; it declares no semaphore, so every counter is zero. -/
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- From arguments that agree and satisfy the precondition, the kernel and the reference end with equal results. -/
theorem value : Cert.algebraic_KernelIdeal_ReferenceIdeal_pre_tame := by
  intro m ρ m' ρ' hpre hagree
  refine ⟨fun c => Cert.KernelIdeal.Gen.W5 m ρ c (Proc.devRef .tc Cert.KernelIdeal.main_v21),
    fun c => Cert.KernelIdeal.Gen.W5 m ρ c (Proc.devRef .tc Cert.KernelIdeal.main_v20_1),
    Cert.KernelIdeal.Res.run_results m ρ, ?_⟩
  have hargs : ∀ c : Dev Cert.ReferenceIdeal.nD, rArgs m' c = kArgs m c := fun c => by
    obtain ⟨h0, h1, h2, h3, h4, h5, h6, h7, h8, h9, h10, h11, h12, h13, h14, h15, h16, h17, h18, h19, h20, h21, h22⟩ := hagree c
    rw [rArgs, h0, h1, h2, h3, h4, h5, h6, h7, h8, h9, h10, h11, h12, h13, h14, h15, h16, h17, h18, h19, h20, h21, h22]
    rfl
  refine (θ_run Cert.ReferenceIdeal.defs _ _).mono (fun r h c => ⟨(h c).1.trans ?_, (h c).2.1.trans ?_, (h c).2.2⟩)
    (Cert.ReferenceIdeal.Value.run m' ρ')
  · obtain ⟨T⟩ := Cert.Pre_tame.Read.tame_kArgs m hpre c
    refine Eq.trans ?_ (out_agree m ρ c T)
    rw [← hargs c]
    rfl
  · refine Eq.trans ?_ (mask_agree m ρ c)
    rw [← hargs c]
    rfl

/-- All the claims. -/
theorem claim : Cert.Claim :=
  ⟨Cert.Kernel.Gen.facts, Cert.KernelIdeal.Gen.facts, Cert.ReferenceIdeal.Gen.facts, Cert.Pre_tame.Gen.facts,
    fun m ρ _ => Cert.Kernel.Gen.frame m ρ, fun m ρ _ => Cert.KernelIdeal.Gen.frame m ρ, fun m ρ _ => Cert.KernelIdeal.Gen.frame m ρ,
    frame_ref, fun m ρ _ => frame_ref m ρ trivial, trivial, value⟩

end Cert.Proof

end
